-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_separated [hPre_finite_and_separated : Cert.Pre_finite_and_separated.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_separated.fn (F := Ideal) (m ((c.tc : Thread Cert.KernelIdeal.nD Cert.KernelIdeal.τ).loc Cert.KernelIdeal.main_arg0))).1 = (fun _ => 1#1)
    ∧ (Cert.Pre_finite_and_separated.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_separated [hPre_finite_and_separated : Cert.Pre_finite_and_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_separated.fn (F := Ideal) (m ((c.tc : Thread Cert.ReferenceIdeal.nD Cert.ReferenceIdeal.τ).loc Cert.ReferenceIdeal.main_arg0))).1 = (fun _ => 1#1)
    ∧ (Cert.Pre_finite_and_separated.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_and_separated [hKernelIdeal : Cert.KernelIdeal.Facts] [hPre_finite_and_separated : Cert.Pre_finite_and_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_and_separated [hReferenceIdeal : Cert.ReferenceIdeal.Facts] [hPre_finite_and_separated : Cert.Pre_finite_and_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_and_separated [hKernelIdeal : Cert.KernelIdeal.Facts] [hReferenceIdeal : Cert.ReferenceIdeal.Facts] [hPre_finite_and_separated : Cert.Pre_finite_and_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v156_0)) (v1 : (c : Dev Cert.KernelIdeal.nD) → Buf (Elt Ideal) ((c.tc : Thread Cert.KernelIdeal.nD Cert.KernelIdeal.τ).loc Cert.KernelIdeal.main_v156_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156_0) = v0 c
          ∧ r.2.mem ((c.tc : Thread Cert.KernelIdeal.nD Cert.KernelIdeal.τ).loc Cert.KernelIdeal.main_v156_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_and_separated : Cert.Pre_finite_and_separated.Facts),
    quiescent_Kernel (hKernel := hKernel)
    ∧ quiescent_KernelIdeal (hKernelIdeal := hKernelIdeal)
    ∧ quiescent_KernelIdeal_pre_finite_and_separated (hKernelIdeal := hKernelIdeal) (hPre_finite_and_separated := hPre_finite_and_separated)
    ∧ quiescent_ReferenceIdeal (hReferenceIdeal := hReferenceIdeal)
    ∧ quiescent_ReferenceIdeal_pre_finite_and_separated (hReferenceIdeal := hReferenceIdeal) (hPre_finite_and_separated := hPre_finite_and_separated)
    ∧ preserves_Kernel_KernelIdeal
    ∧ algebraic_KernelIdeal_ReferenceIdeal_pre_finite_and_separated (hKernelIdeal := hKernelIdeal) (hReferenceIdeal := hReferenceIdeal) (hPre_finite_and_separated := hPre_finite_and_separated)
-- ==== Pre_finite_and_separated.lean ====
abbrev S128x32768 : Shape := ⟨2, ![128, 32768]⟩
abbrev S_ : Shape := ⟨0, ![]⟩
abbrev S32768x16385 : Shape := ⟨2, ![32768, 16385]⟩
abbrev S128x16385 : Shape := ⟨2, ![128, 16385]⟩
abbrev S128x5 : Shape := ⟨2, ![128, 5]⟩
abbrev S128 : Shape := ⟨1, ![128]⟩
abbrev S128x1 : Shape := ⟨2, ![128, 1]⟩

class Facts : Prop where
  bcast_S_S128x32768 : S_.BroadcastsInDim S128x32768 (![] : Fin 0 → Fin S128x32768.rank)
  bcast_S_S32768x16385 : S_.BroadcastsInDim S32768x16385 (![] : Fin 0 → Fin S32768x16385.rank)
  bcast_S_S128x16385 : S_.BroadcastsInDim S128x16385 (![] : Fin 0 → Fin S128x16385.rank)
  sliceFits_S128x16385_S128x5 : S128x16385.Slices (fun _ => 0) S128x5
  reducesTo_S128x5_S128_d1 : S128x5.ReducesTo [1] S128
  h_S_ : 0 < S_.numel
  bcast_S128_S128x1_0 : S128.BroadcastsInDim S128x1 (![0] : Fin 1 → Fin S128x1.rank)
  bcast_S128x1_S128x16385_0_1 : S128x1.BroadcastsInDim S128x16385 (![0, 1] : Fin 2 → Fin S128x16385.rank)
  bcast_S_S128x1 : S_.BroadcastsInDim S128x1 (![] : Fin 0 → Fin S128x1.rank)
  dot_S128x32768_S32768x16385_S128x16385_1_0_0_1_n_n_wf : DotDims.WF S128x32768 S32768x16385 S128x16385 [1] [0] [0] [1] [] []

variable [Facts]

def dot_S128x32768_S32768x16385_S128x16385_1_0_0_1_n_n : DotDims S128x32768 S32768x16385 S128x16385 where
  lhsContracting := [1]
  rhsContracting := [0]
  lhsNonContracting := [0]
  rhsNonContracting := [1]
  lhsBatch := []
  rhsBatch := []
  wf := dot_S128x32768_S32768x16385_S128x16385_1_0_0_1_n_n_wf
def fn_where {F : FTy → Type} [FloatOps F] (arg0 : IVec S128x16385 1) (arg1 : FVec F S_ .f32) (arg2 : FVec F S128x16385 .f32) : FVec F S128x16385 .f32 :=
  let v0 : FVec F S_ .f32 := id arg1
  let v1 : FVec F S128x16385 .f32 := broadcastInDim S128x16385 ![] bcast_S_S128x16385 v0
  let v2 : FVec F S128x16385 .f32 := select arg0 v1 arg2
  v2

def fn_part1 {F : FTy → Type} [FloatOps F] (main_v2 : IVec S128x32768 1) (main_v18 : FVec F S128x16385 .f32) (main_v19 : FVec F S128x16385 .f32) : IVec S128x32768 1 × IVec S128x16385 1 :=
  let main_v20 : FVec F S128x16385 .f32 := addf main_v18 main_v19
  let main_v21 : FVec F S128x16385 .f32 := Host.sqrt main_v20
  let main_v22 : IVec S128x16385 32 := iotaInDim S128x16385 32 1
  let main_c_2 : IVec S_ 32 := constantI S_ 32 0#32
  let main_v23 : IVec S128x16385 32 := broadcastInDim S128x16385 ![] bcast_S_S128x16385 main_c_2
  let main_v24 : IVec S128x16385 1 := cmpi .eq main_v22 main_v23
  let main_cst_3 : FVec F S_ .f32 := constant S_ .f32 0x00000000#32
  let main_v25 : FVec F S128x16385 .f32 := fn_where (F := F) main_v24 main_cst_3 main_v21
  let main_values : FVec F S128x5 .f32 := (fun x => (Host.topK S128x5 1 (FloatOps.cmpfTotal .gt) x sliceFits_S128x16385_S128x5).1) main_v25
  let main_indices : IVec S128x5 32 := (fun x => (Host.topK S128x5 1 (FloatOps.cmpfTotal .gt) x sliceFits_S128x16385_S128x5).2) main_v25
  let main_cst_4 : FVec F S_ .f32 := constant S_ .f32 0x7F800000#32
  let main_v26 : FVec F S128 .f32 := (fun x v => Host.reduce FloatOps.minimumf x v reducesTo_S128x5_S128_d1 h_S_) main_values main_cst_4
  let main_v27 : FVec F S128x1 .f32 := broadcastInDim S128x1 ![0] bcast_S128_S128x1_0 main_v26
  let main_v28 : FVec F S128x16385 .f32 := broadcastInDim S128x16385 ![0, 1] bcast_S128x1_S128x16385_0_1 main_v27
  let main_v29 : IVec S128x16385 1 := cmpf .ole main_v25 main_v28
  let main_v30 : FVec F S128x16385 .f32 := mulf main_v25 main_v25
  let main_v31 : FVec F S128x1 .f32 := mulf main_v27 main_v27
  let main_cst_5 : FVec F S_ .f32 := constant S_ .f32 0x3F800004#32
  let main_v32 : FVec F S128x1 .f32 := broadcastInDim S128x1 ![] bcast_S_S128x1 main_cst_5
  let main_v33 : FVec F S128x1 .f32 := mulf main_v31 main_v32
  let main_v34 : FVec F S128x16385 .f32 := broadcastInDim S128x16385 ![0, 1] bcast_S128x1_S128x16385_0_1 main_v33
  let main_v35 : IVec S128x16385 1 := cmpf .ogt main_v30 main_v34
  let main_v36 : IVec S128x16385 1 := ori main_v29 main_v35
  (main_v2, main_v36)

def fn {F : FTy → Type} [FloatOps F] (main_arg0 : FVec F S128x32768 .f32) : IVec S128x32768 1 × IVec S128x16385 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_v3 : IVec S32768x16385 32 := iotaInDim S32768x16385 32 0
  let main_v4 : IVec S32768x16385 32 := iotaInDim S32768x16385 32 1
  let main_cst_0 : FVec F S_ .f32 := constant S_ .f32 0xBF800000#32
  let main_v5 : FVec F S_ .f32 := Host.acos main_cst_0
  let main_cst_1 : FVec F S_ .f32 := constant S_ .f32 0x38800000#32
  let main_v6 : FVec F S_ .f32 := mulf main_v5 main_cst_1
  let main_v7 : IVec S32768x16385 32 := muli main_v3 main_v4
  let main_c : IVec S_ 32 := constantI S_ 32 32768#32
  let main_v8 : IVec S32768x16385 32 := broadcastInDim S32768x16385 ![] bcast_S_S32768x16385 main_c
  let main_v9 : IVec S32768x16385 32 := Host.remsi main_v7 main_v8
  let main_v10 : FVec F S32768x16385 .f32 := sitofp .f32 main_v9
  let main_v11 : FVec F S32768x16385 .f32 := broadcastInDim S32768x16385 ![] bcast_S_S32768x16385 main_v6
  let main_v12 : FVec F S32768x16385 .f32 := mulf main_v10 main_v11
  let main_v13 : FVec F S32768x16385 .f32 := Host.cos main_v12
  let main_v14 : FVec F S128x16385 .f32 := (fun l r => Host.dotGeneral dot_S128x32768_S32768x16385_S128x16385_1_0_0_1_n_n (some .fp32) l r) main_arg0 main_v13
  let main_v15 : FVec F S32768x16385 .f32 := Host.sin main_v12
  let main_v16 : FVec F S128x16385 .f32 := (fun l r => Host.dotGeneral dot_S128x32768_S32768x16385_S128x16385_1_0_0_1_n_n (some .fp32) l r) main_arg0 main_v15
  let main_v17 : FVec F S128x16385 .f32 := Host.negf main_v16
  let main_v18 : FVec F S128x16385 .f32 := mulf main_v14 main_v14
  let main_v19 : FVec F S128x16385 .f32 := mulf main_v17 main_v17
  fn_part1 (F := F) main_v2 main_v18 main_v19
-- ==== Kernel.lean ====
abbrev S128x32768 : Shape := ⟨2, ![128, 32768]⟩
abbrev S72x128 : Shape := ⟨2, ![72, 128]⟩
abbrev S_ : Shape := ⟨0, ![]⟩
abbrev S144x128 : Shape := ⟨2, ![144, 128]⟩
abbrev S72x256 : Shape := ⟨2, ![72, 256]⟩
abbrev S1x256 : Shape := ⟨2, ![1, 256]⟩
abbrev S128x256 : Shape := ⟨2, ![128, 256]⟩
abbrev S256x128 : Shape := ⟨2, ![256, 128]⟩
abbrev S256x256 : Shape := ⟨2, ![256, 256]⟩
abbrev S128x512 : Shape := ⟨2, ![128, 512]⟩
abbrev S128x128 : Shape := ⟨2, ![128, 128]⟩
abbrev S128x128x256 : Shape := ⟨3, ![128, 128, 256]⟩
abbrev S16x128x256 : Shape := ⟨3, ![16, 128, 256]⟩
abbrev S16x128x128 : Shape := ⟨3, ![16, 128, 128]⟩
abbrev S64x256 : Shape := ⟨2, ![64, 256]⟩
abbrev S1x128x256 : Shape := ⟨3, ![1, 128, 256]⟩
abbrev S144x256 : Shape := ⟨2, ![144, 256]⟩
abbrev S1x1x256 : Shape := ⟨3, ![1, 1, 256]⟩
abbrev S16x1x256 : Shape := ⟨3, ![16, 1, 256]⟩
abbrev S16x1 : Shape := ⟨2, ![16, 1]⟩
abbrev S16x1x1 : Shape := ⟨3, ![16, 1, 1]⟩
abbrev S2048x256 : Shape := ⟨2, ![2048, 256]⟩
abbrev S4096x256 : Shape := ⟨2, ![4096, 256]⟩
abbrev S2048x128 : Shape := ⟨2, ![2048, 128]⟩
abbrev S1x128x128 : Shape := ⟨3, ![1, 128, 128]⟩
abbrev S16x128 : Shape := ⟨2, ![16, 128]⟩
abbrev S16x1x128 : Shape := ⟨3, ![16, 1, 128]⟩
abbrev S4096x128 : Shape := ⟨2, ![4096, 128]⟩
abbrev S4096x512 : Shape := ⟨2, ![4096, 512]⟩
abbrev S16x256x256 : Shape := ⟨3, ![16, 256, 256]⟩
abbrev S1x256x256 : Shape := ⟨3, ![1, 256, 256]⟩

abbrev nBuf : Space → Nat
  | .hbm => 206
  | .vmem => 17
  | .smem => 0
  | _ => 0

abbrev hbmTy0_0 (i : Nat) : BufTy := match i % 128 with
  | 0 => ⟨S128x32768, .f32⟩
  | 1 => ⟨S72x128, .i32⟩
  | 2 => ⟨S72x128, .i32⟩
  | 3 => ⟨S72x128, .i32⟩
  | 4 => ⟨S_, .i32⟩
  | 5 => ⟨S72x128, .i32⟩
  | 6 => ⟨S72x128, .i32⟩
  | 7 => ⟨S72x128, .f32⟩
  | 8 => ⟨S_, .f32⟩
  | 9 => ⟨S_, .f32⟩
  | 10 => ⟨S_, .f32⟩
  | 11 => ⟨S_, .f32⟩
  | 12 => ⟨S72x128, .f32⟩
  | 13 => ⟨S72x128, .f32⟩
  | 14 => ⟨S72x128, .f32⟩
  | 15 => ⟨S_, .i32⟩
  | 16 => ⟨S72x128, .i32⟩
  | 17 => ⟨S72x128, .i32⟩
  | 18 => ⟨S72x128, .f32⟩
  | 19 => ⟨S_, .f32⟩
  | 20 => ⟨S_, .f32⟩
  | 21 => ⟨S_, .f32⟩
  | 22 => ⟨S_, .f32⟩
  | 23 => ⟨S72x128, .f32⟩
  | 24 => ⟨S72x128, .f32⟩
  | 25 => ⟨S72x128, .f32⟩
  | 26 => ⟨S72x128, .f32⟩
  | 27 => ⟨S144x128, .f32⟩
  | 28 => ⟨S72x256, .i32⟩
  | 29 => ⟨S72x256, .i32⟩
  | 30 => ⟨S72x256, .i32⟩
  | 31 => ⟨S_, .i32⟩
  | 32 => ⟨S72x256, .i32⟩
  | 33 => ⟨S72x256, .i32⟩
  | 34 => ⟨S72x256, .f32⟩
  | 35 => ⟨S_, .f32⟩
  | 36 => ⟨S_, .f32⟩
  | 37 => ⟨S_, .f32⟩
  | 38 => ⟨S_, .f32⟩
  | 39 => ⟨S72x256, .f32⟩
  | 40 => ⟨S72x256, .f32⟩
  | 41 => ⟨S72x256, .f32⟩
  | 42 => ⟨S_, .i32⟩
  | 43 => ⟨S72x256, .i32⟩
  | 44 => ⟨S72x256, .i32⟩
  | 45 => ⟨S72x256, .f32⟩
  | 46 => ⟨S_, .f32⟩
  | 47 => ⟨S_, .f32⟩
  | 48 => ⟨S_, .f32⟩
  | 49 => ⟨S_, .f32⟩
  | 50 => ⟨S72x256, .f32⟩
  | 51 => ⟨S72x256, .f32⟩
  | 52 => ⟨S72x256, .f32⟩
  | 53 => ⟨S72x256, .f32⟩
  | 54 => ⟨S1x256, .i32⟩
  | 55 => ⟨S1x256, .i32⟩
  | 56 => ⟨S_, .i32⟩
  | 57 => ⟨S1x256, .i32⟩
  | 58 => ⟨S1x256, .i32⟩
  | 59 => ⟨S1x256, .i32⟩
  | 60 => ⟨S_, .i32⟩
  | 61 => ⟨S1x256, .i32⟩
  | 62 => ⟨S1x256, .i32⟩
  | 63 => ⟨S1x256, .f32⟩
  | 64 => ⟨S_, .f32⟩
  | 65 => ⟨S_, .f32⟩
  | 66 => ⟨S_, .f32⟩
  | 67 => ⟨S_, .f32⟩
  | 68 => ⟨S1x256, .f32⟩
  | 69 => ⟨S1x256, .f32⟩
  | 70 => ⟨S1x256, .f32⟩
  | 71 => ⟨S_, .i32⟩
  | 72 => ⟨S1x256, .i32⟩
  | 73 => ⟨S1x256, .i32⟩
  | 74 => ⟨S1x256, .f32⟩
  | 75 => ⟨S_, .f32⟩
  | 76 => ⟨S_, .f32⟩
  | 77 => ⟨S_, .f32⟩
  | 78 => ⟨S_, .f32⟩
  | 79 => ⟨S1x256, .f32⟩
  | 80 => ⟨S1x256, .f32⟩
  | 81 => ⟨S1x256, .f32⟩
  | 82 => ⟨S1x256, .f32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i32⟩
  | 91 => ⟨S128x256, .i32⟩
  | 92 => ⟨S128x256, .i32⟩
  | 93 => ⟨S_, .i32⟩
  | 94 => ⟨S128x256, .i32⟩
  | 95 => ⟨S128x256, .i32⟩
  | 96 => ⟨S128x256, .f32⟩
  | 97 => ⟨S_, .f32⟩
  | 98 => ⟨S_, .f32⟩
  | 99 => ⟨S_, .f32⟩
  | 100 => ⟨S_, .f32⟩
  | 101 => ⟨S128x256, .f32⟩
  | 102 => ⟨S128x256, .f32⟩
  | 103 => ⟨S128x256, .f32⟩
  | 104 => ⟨S_, .i32⟩
  | 105 => ⟨S128x256, .i32⟩
  | 106 => ⟨S128x256, .i32⟩
  | 107 => ⟨S128x256, .f32⟩
  | 108 => ⟨S_, .f32⟩
  | 109 => ⟨S_, .f32⟩
  | 110 => ⟨S_, .f32⟩
  | 111 => ⟨S_, .f32⟩
  | 112 => ⟨S128x256, .f32⟩
  | 113 => ⟨S128x256, .f32⟩
  | 114 => ⟨S128x256, .f32⟩
  | 115 => ⟨S128x256, .f32⟩
  | 116 => ⟨S256x128, .i32⟩
  | 117 => ⟨S256x128, .i32⟩
  | 118 => ⟨S256x128, .i32⟩
  | 119 => ⟨S_, .i32⟩
  | 120 => ⟨S256x128, .i32⟩
  | 121 => ⟨S256x128, .i32⟩
  | 122 => ⟨S256x128, .f32⟩
  | 123 => ⟨S_, .f32⟩
  | 124 => ⟨S_, .f32⟩
  | 125 => ⟨S_, .f32⟩
  | 126 => ⟨S_, .f32⟩
  | 127 => ⟨S256x128, .f32⟩
  | _ => ⟨S128x32768, .f32⟩

abbrev hbmTy0_1 (i : Nat) : BufTy := match i % 128 with
  | 0 => ⟨S256x128, .f32⟩
  | 1 => ⟨S256x128, .f32⟩
  | 2 => ⟨S_, .i32⟩
  | 3 => ⟨S256x128, .i32⟩
  | 4 => ⟨S256x128, .i32⟩
  | 5 => ⟨S256x128, .f32⟩
  | 6 => ⟨S_, .f32⟩
  | 7 => ⟨S_, .f32⟩
  | 8 => ⟨S_, .f32⟩
  | 9 => ⟨S_, .f32⟩
  | 10 => ⟨S256x128, .f32⟩
  | 11 => ⟨S256x128, .f32⟩
  | 12 => ⟨S256x128, .f32⟩
  | 13 => ⟨S256x128, .f32⟩
  | 14 => ⟨S256x256, .f32⟩
  | 15 => ⟨S128x256, .i32⟩
  | 16 => ⟨S128x256, .i32⟩
  | 17 => ⟨S128x256, .i32⟩
  | 18 => ⟨S_, .i32⟩
  | 19 => ⟨S128x256, .i32⟩
  | 20 => ⟨S128x256, .i32⟩
  | 21 => ⟨S128x256, .f32⟩
  | 22 => ⟨S_, .f32⟩
  | 23 => ⟨S_, .f32⟩
  | 24 => ⟨S_, .f32⟩
  | 25 => ⟨S_, .f32⟩
  | 26 => ⟨S128x256, .f32⟩
  | 27 => ⟨S128x256, .f32⟩
  | 28 => ⟨S128x256, .f32⟩
  | 29 => ⟨S_, .i32⟩
  | 30 => ⟨S128x256, .i32⟩
  | 31 => ⟨S128x256, .i32⟩
  | 32 => ⟨S128x256, .f32⟩
  | 33 => ⟨S_, .f32⟩
  | 34 => ⟨S_, .f32⟩
  | 35 => ⟨S_, .f32⟩
  | 36 => ⟨S_, .f32⟩
  | 37 => ⟨S128x256, .f32⟩
  | 38 => ⟨S128x256, .f32⟩
  | 39 => ⟨S128x256, .f32⟩
  | 40 => ⟨S128x512, .f32⟩
  | 41 => ⟨S128x128, .i32⟩
  | 42 => ⟨S128x128, .i32⟩
  | 43 => ⟨S_, .i32⟩
  | 44 => ⟨S128x128, .i32⟩
  | 45 => ⟨S128x128, .i1⟩
  | 46 => ⟨S_, .i32⟩
  | 47 => ⟨S128x128, .i32⟩
  | 48 => ⟨S128x128, .i32⟩
  | 49 => ⟨S128x128, .i32⟩
  | 50 => ⟨S128x128, .i32⟩
  | 51 => ⟨S_, .i32⟩
  | 52 => ⟨S128x128, .i32⟩
  | 53 => ⟨S128x128, .i32⟩
  | 54 => ⟨S128x128, .f32⟩
  | 55 => ⟨S_, .f32⟩
  | 56 => ⟨S_, .f32⟩
  | 57 => ⟨S_, .f32⟩
  | 58 => ⟨S_, .f32⟩
  | 59 => ⟨S128x128, .f32⟩
  | 60 => ⟨S128x128, .f32⟩
  | 61 => ⟨S128x128, .f32⟩
  | 62 => ⟨S_, .i32⟩
  | 63 => ⟨S128x128, .i32⟩
  | 64 => ⟨S128x128, .i32⟩
  | 65 => ⟨S128x128, .f32⟩
  | 66 => ⟨S_, .f32⟩
  | 67 => ⟨S_, .f32⟩
  | 68 => ⟨S_, .f32⟩
  | 69 => ⟨S_, .f32⟩
  | 70 => ⟨S128x128, .f32⟩
  | 71 => ⟨S128x128, .f32⟩
  | 72 => ⟨S128x128, .f32⟩
  | 73 => ⟨S128x128, .f32⟩
  | 74 => ⟨S128x256, .f32⟩
  | 75 => ⟨S128x128x256, .f32⟩
  | 76 => ⟨S128x128x256, .f32⟩
  | 77 => ⟨S128x128x256, .f32⟩
  | _ => ⟨S128x32768, .f32⟩

abbrev hbmTy (i : Nat) : BufTy := match i / 128 with
  | 0 => hbmTy0_0 i
  | 1 => hbmTy0_1 i
  | _ => ⟨S128x32768, .f32⟩

abbrev bufTy : (tb : Table) → Fin (tcTables nBuf tb) → BufTy
  | .hbm, ⟨i, _⟩ => hbmTy i
  | .local _ .vmem, ⟨0, _⟩ => ⟨S16x128x256, .f32⟩
  | .local _ .vmem, ⟨1, _⟩ => ⟨S16x128x256, .f32⟩
  | .local _ .vmem, ⟨2, _⟩ => ⟨S144x128, .f32⟩
  | .local _ .vmem, ⟨3, _⟩ => ⟨S72x256, .f32⟩
  | .local _ .vmem, ⟨4, _⟩ => ⟨S72x256, .f32⟩
  | .local _ .vmem, ⟨5, _⟩ => ⟨S1x256, .f32⟩
  | .local _ .vmem, ⟨6, _⟩ => ⟨S1x256, .f32⟩
  | .local _ .vmem, ⟨7, _⟩ => ⟨S128x256, .f32⟩
  | .local _ .vmem, ⟨8, _⟩ => ⟨S128x256, .f32⟩
  | .local _ .vmem, ⟨9, _⟩ => ⟨S256x256, .f32⟩
  | .local _ .vmem, ⟨10, _⟩ => ⟨S128x512, .f32⟩
  | .local _ .vmem, ⟨11, _⟩ => ⟨S128x256, .f32⟩
  | .local _ .vmem, ⟨12, _⟩ => ⟨S16x128x256, .f32⟩
  | .local _ .vmem, ⟨13, _⟩ => ⟨S16x128x256, .f32⟩
  | .local _ .vmem, ⟨14, _⟩ => ⟨S16x128x256, .f32⟩
  | .local _ .vmem, ⟨15, _⟩ => ⟨S16x128x256, .f32⟩
  | .local _ .vmem, ⟨16, _⟩ => ⟨S16x128x128, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_11 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_cst_13 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_14 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_cst_16 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_17 : Ref sig .tc := ⟨.hbm, 85, rfl⟩
abbrev main_v65 : Ref sig .tc := ⟨.hbm, 86, rfl⟩
abbrev main_v66 : Ref sig .tc := ⟨.hbm, 87, rfl⟩
abbrev main_c_18 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_19 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_20 : Ref sig .tc := ⟨.hbm, 97, rfl⟩
abbrev main_v74 : Ref sig .tc := ⟨.hbm, 98, rfl⟩
abbrev main_cst_21 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_22 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_23 : Ref sig .tc := ⟨.hbm, 108, rfl⟩
abbrev main_v82 : Ref sig .tc := ⟨.hbm, 109, rfl⟩
abbrev main_cst_24 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_25 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_26 : Ref sig .tc := ⟨.hbm, 123, rfl⟩
abbrev main_v94 : Ref sig .tc := ⟨.hbm, 124, rfl⟩
abbrev main_cst_27 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_28 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_29 : Ref sig .tc := ⟨.hbm, 134, rfl⟩
abbrev main_v102 : Ref sig .tc := ⟨.hbm, 135, rfl⟩
abbrev main_cst_30 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_31 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_32 : Ref sig .tc := ⟨.hbm, 150, rfl⟩
abbrev main_v115 : Ref sig .tc := ⟨.hbm, 151, rfl⟩
abbrev main_cst_33 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_34 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_35 : Ref sig .tc := ⟨.hbm, 161, rfl⟩
abbrev main_v123 : Ref sig .tc := ⟨.hbm, 162, rfl⟩
abbrev main_cst_36 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_37 : Ref sig .tc := ⟨.hbm, 171, rfl⟩
abbrev main_v131 : Ref sig .tc := ⟨.hbm, 172, rfl⟩
abbrev main_v132 : Ref sig .tc := ⟨.hbm, 173, rfl⟩
abbrev main_c_38 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_39 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_40 : Ref sig .tc := ⟨.hbm, 183, rfl⟩
abbrev main_v140 : Ref sig .tc := ⟨.hbm, 184, rfl⟩
abbrev main_cst_41 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_42 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_43 : Ref sig .tc := ⟨.hbm, 194, rfl⟩
abbrev main_v148 : Ref sig .tc := ⟨.hbm, 195, rfl⟩
abbrev main_cst_44 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156_0 : Ref sig .tc := ⟨.hbm, 204, rfl⟩
abbrev main_v156_1 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S128x32768 : Shape := ⟨2, ![128, 32768]⟩
abbrev S32768x16385 : Shape := ⟨2, ![32768, 16385]⟩
abbrev S_ : Shape := ⟨0, ![]⟩
abbrev S128x16385 : Shape := ⟨2, ![128, 16385]⟩
abbrev S128x5 : Shape := ⟨2, ![128, 5]⟩
abbrev S128 : Shape := ⟨1, ![128]⟩
abbrev S128x1 : Shape := ⟨2, ![128, 1]⟩
abbrev S1x16385 : Shape := ⟨2, ![1, 16385]⟩
abbrev S16385x32768 : Shape := ⟨2, ![16385, 32768]⟩
abbrev S128x128x256 : Shape := ⟨3, ![128, 128, 256]⟩

abbrev nBuf : Space → Nat
  | .hbm => 86
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S32768x16385, .i32⟩
  | .hbm, ⟨2, _⟩ => ⟨S32768x16385, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x16385, .i32⟩
  | .hbm, ⟨8, _⟩ => ⟨S_, .i32⟩
  | .hbm, ⟨9, _⟩ => ⟨S32768x16385, .i32⟩
  | .hbm, ⟨10, _⟩ => ⟨S32768x16385, .i32⟩
  | .hbm, ⟨11, _⟩ => ⟨S32768x16385, .f32⟩
  | .hbm, ⟨12, _⟩ => ⟨S32768x16385, .f32⟩
  | .hbm, ⟨13, _⟩ => ⟨S32768x16385, .f32⟩
  | .hbm, ⟨14, _⟩ => ⟨S32768x16385, .f32⟩
  | .hbm, ⟨15, _⟩ => ⟨S128x16385, .f32⟩
  | .hbm, ⟨16, _⟩ => ⟨S32768x16385, .f32⟩
  | .hbm, ⟨17, _⟩ => ⟨S128x16385, .f32⟩
  | .hbm, ⟨18, _⟩ => ⟨S128x16385, .f32⟩
  | .hbm, ⟨19, _⟩ => ⟨S128x16385, .f32⟩
  | .hbm, ⟨20, _⟩ => ⟨S128x16385, .f32⟩
  | .hbm, ⟨21, _⟩ => ⟨S128x16385, .f32⟩
  | .hbm, ⟨22, _⟩ => ⟨S128x16385, .f32⟩
  | .hbm, ⟨23, _⟩ => ⟨S128x16385, .i32⟩
  | .hbm, ⟨24, _⟩ => ⟨S_, .i32⟩
  | .hbm, ⟨25, _⟩ => ⟨S128x16385, .i32⟩
  | .hbm, ⟨26, _⟩ => ⟨S128x16385, .i1⟩
  | .hbm, ⟨27, _⟩ => ⟨S_, .f32⟩
  | .hbm, ⟨28, _⟩ => ⟨S_, .f32⟩
  | .hbm, ⟨29, _⟩ => ⟨S128x16385, .f32⟩
  | .hbm, ⟨30, _⟩ => ⟨S128x16385, .f32⟩
  | .hbm, ⟨31, _⟩ => ⟨S128x5, .f32⟩
  | .hbm, ⟨32, _⟩ => ⟨S128x5, .i32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S128x16385, .f32⟩
  | .hbm, ⟨37, _⟩ => ⟨S128x16385, .i1⟩
  | .hbm, ⟨38, _⟩ => ⟨S_, .f32⟩
  | .hbm, ⟨39, _⟩ => ⟨S_, .f32⟩
  | .hbm, ⟨40, _⟩ => ⟨S128x16385, .f32⟩
  | .hbm, ⟨41, _⟩ => ⟨S128x16385, .f32⟩
  | .hbm, ⟨42, _⟩ => ⟨S_, .f32⟩
  | .hbm, ⟨43, _⟩ => ⟨S_, .f32⟩
  | .hbm, ⟨44, _⟩ => ⟨S128x16385, .f32⟩
  | .hbm, ⟨45, _⟩ => ⟨S128x16385, .f32⟩
  | .hbm, ⟨46, _⟩ => ⟨S32768x16385, .i32⟩
  | .hbm, ⟨47, _⟩ => ⟨S32768x16385, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32768x16385, .i32⟩
  | .hbm, ⟨53, _⟩ => ⟨S_, .i32⟩
  | .hbm, ⟨54, _⟩ => ⟨S32768x16385, .i32⟩
  | .hbm, ⟨55, _⟩ => ⟨S32768x16385, .i32⟩
  | .hbm, ⟨56, _⟩ => ⟨S32768x16385, .f32⟩
  | .hbm, ⟨57, _⟩ => ⟨S32768x16385, .f32⟩
  | .hbm, ⟨58, _⟩ => ⟨S32768x16385, .f32⟩
  | .hbm, ⟨59, _⟩ => ⟨S1x16385, .i32⟩
  | .hbm, ⟨60, _⟩ => ⟨S_, .i32⟩
  | .hbm, ⟨61, _⟩ => ⟨S1x16385, .i32⟩
  | .hbm, ⟨62, _⟩ => ⟨S1x16385, .i1⟩
  | .hbm, ⟨63, _⟩ => ⟨S_, .i32⟩
  | .hbm, ⟨64, _⟩ => ⟨S1x16385, .i32⟩
  | .hbm, ⟨65, _⟩ => ⟨S1x16385, .i1⟩
  | .hbm, ⟨66, _⟩ => ⟨S1x16385, .i1⟩
  | .hbm, ⟨67, _⟩ => ⟨S_, .f32⟩
  | .hbm, ⟨68, _⟩ => ⟨S_, .f32⟩
  | .hbm, ⟨69, _⟩ => ⟨S1x16385, .f32⟩
  | .hbm, ⟨70, _⟩ => ⟨S1x16385, .f32⟩
  | .hbm, ⟨71, _⟩ => ⟨S1x16385, .f32⟩
  | .hbm, ⟨72, _⟩ => ⟨S128x16385, .f32⟩
  | .hbm, ⟨73, _⟩ => ⟨S128x16385, .f32⟩
  | .hbm, ⟨74, _⟩ => ⟨S32768x16385, .f32⟩
  | .hbm, ⟨75, _⟩ => ⟨S16385x32768, .f32⟩
  | .hbm, ⟨76, _⟩ => ⟨S128x32768, .f32⟩
  | .hbm, ⟨77, _⟩ => ⟨S128x16385, .f32⟩
  | .hbm, ⟨78, _⟩ => ⟨S128x16385, .f32⟩
  | .hbm, ⟨79, _⟩ => ⟨S32768x16385, .f32⟩
  | .hbm, ⟨80, _⟩ => ⟨S16385x32768, .f32⟩
  | .hbm, ⟨81, _⟩ => ⟨S128x32768, .f32⟩
  | .hbm, ⟨82, _⟩ => ⟨S128x32768, .f32⟩
  | .hbm, ⟨83, _⟩ => ⟨S128x32768, .f32⟩
  | .hbm, ⟨84, _⟩ => ⟨S128x128x256, .f32⟩
  | .hbm, ⟨85, _⟩ => ⟨S128x128x256, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v22 : Ref sig .tc := ⟨.hbm, 30, rfl⟩
abbrev main_values : Ref sig .tc := ⟨.hbm, 31, rfl⟩
abbrev main_indices : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_5 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_cst_12 : Ref sig .tc := ⟨.hbm, 68, rfl⟩
abbrev main_call3_v0 : Ref sig .tc := ⟨.hbm, 69, rfl⟩
abbrev main_call3_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== Proof.Rows.lean ====
/-
  What the body computes from its blocks, on one row at a time: the sixteen unrolled rows are the same function of the
  row's own block, and the operations after them are functions of the stacked rows.
-/
module

public import proofs.«01_k».proof.Proof.Gen.KernelIdeal.Value
public import Idealize.ShloMosaic.Lib.Pointwise
public import Idealize.ShloMosaic.Lib.WholeRead

@[expose] public section

set_option maxRecDepth 16384

noncomputable section

namespace Cert.KernelIdeal.Hand

open Idealize.ShloMosaic Cert.KernelIdeal Cert.KernelIdeal.Gen

variable {F : FTy → Type} [FloatOps F]

/-- The half length products of a row: 72 frequencies, cosine rows first, sine rows after. -/
def prodG (v1 : FVec F S144x128 .f32) (X : Vec F S1x128x256 .f32) : FVec F S144x256 .f32 :=
  matmul dot_S144x128_S128x256_S144x256_1_0_0_1_n_n (some .fp32) v1 (shapeCast S128x256 X rfl) (constant S144x256 .f32 0x00000000#32)

/-- The row of column sums. -/
def sumRow (v1 : FVec F S144x128 .f32) (X : Vec F S1x128x256 .f32) : FVec F S1x256 .f32 :=
  extractStridedSlice S1x256 ![0, 0] (prodG v1 X) slices_S144x256_o0_0_S1x256

/-- Real part of the products times the twiddles. -/
def lowRe (v1 : FVec F S144x128 .f32) (v3 v5 : FVec F S72x256 .f32) (X : Vec F S1x128x256 .f32) : FVec F S72x256 .f32 :=
  subf (mulf (extractStridedSlice S72x256 ![0, 0] (prodG v1 X) slices_S144x256_o0_0_S72x256) v3)
    (mulf (extractStridedSlice S72x256 ![72, 0] (prodG v1 X) slices_S144x256_o72_0_S72x256) v5)

/-- Imaginary part of the products times the twiddles. -/
def lowIm (v1 : FVec F S144x128 .f32) (v3 v5 : FVec F S72x256 .f32) (X : Vec F S1x128x256 .f32) : FVec F S72x256 .f32 :=
  addf (mulf (extractStridedSlice S72x256 ![0, 0] (prodG v1 X) slices_S144x256_o0_0_S72x256) v5)
    (mulf (extractStridedSlice S72x256 ![72, 0] (prodG v1 X) slices_S144x256_o72_0_S72x256) v3)

/-- The 128 frequencies' real part from the 65 lower ones. -/
def foldRe (v7 v9 : FVec F S1x256 .f32) (a b : FVec F S72x256 .f32) : FVec F S128x256 .f32 := k0_pay18 v7 v9 kernelRun0_A.sl.v20 a b

/-- The 128 frequencies' imaginary part from the 65 lower ones. -/
def foldIm (v7 v9 : FVec F S1x256 .f32) (a b : FVec F S72x256 .f32) : FVec F S128x256 .f32 := k0_pay19 v7 v9 kernelRun0_A.sl.v20 a b

/-- A row's first stage, real part. -/
def zRe (v1 : FVec F S144x128 .f32) (v3 v5 : FVec F S72x256 .f32) (v7 v9 : FVec F S1x256 .f32) (X : Vec F S1x128x256 .f32) :
    FVec F S128x256 .f32 := foldRe v7 v9 (lowRe v1 v3 v5 X) (lowIm v1 v3 v5 X)

/-- A row's first stage, imaginary part. -/
def zIm (v1 : FVec F S144x128 .f32) (v3 v5 : FVec F S72x256 .f32) (v7 v9 : FVec F S1x256 .f32) (X : Vec F S1x128x256 .f32) :
    FVec F S128x256 .f32 := foldIm v7 v9 (lowRe v1 v3 v5 X) (lowIm v1 v3 v5 X)

/-- A row of the block. -/
def rowVec (x0 : Vec F S16x128x256 .f32) (k : Fin 16) : Vec F S1x128x256 .f32 := fun j => x0 (ix3 k (j 1) (j 2))

/-- A row's season from its slice of the last stage and of the alternating term. -/
def season (v19 : FVec F S128x256 .f32) (h : FVec F S256x256 .f32) (n : FVec F S1x256 .f32) : FVec F S128x256 .f32 :=
  addf (mulf (broadcast S128x256 (Scalar.mulf (Scalar.ofBits .f32 0x40000000#32) (Scalar.ofBits .f32 0x38000000#32)))
      (matmul dot_S128x256_S256x256_S128x256_1_0_0_1_n_n none v19 h (constant S128x256 .f32 0x00000000#32)))
    (broadcastTo S128x256 n broadcasts_S1x256_S128x256)

/-- A row's slice of the last stage. -/
def hRow (h : FVec F S16x256x256 .f32) (k : Fin 16) : FVec F S256x256 .f32 := fun j => h (ix3 k (j 0) (j 1))

/-- A row's slice of the alternating term. -/
def nRow (n : FVec F S16x1x256 .f32) (k : Fin 16) : FVec F S1x256 .f32 := fun j => n (ix3 k 0 (j 1))

variable (c : Dev nD) (i : grid0.Coords)
  (arg1 : Memref sig .tc .vmem S16x128x256 .f32) (harg1 : arg1.IsWhole)
  (arg2 : Memref sig .tc .vmem S144x128 .f32) (harg2 : arg2.IsWhole)
  (arg3 : Memref sig .tc .vmem S72x256 .f32) (harg3 : arg3.IsWhole)
  (arg4 : Memref sig .tc .vmem S72x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S256x256 .f32) (harg9 : arg9.IsWhole)
  (arg10 : Memref sig .tc .vmem S128x512 .f32) (harg10 : arg10.IsWhole)
  (arg11 : Memref sig .tc .vmem S128x256 .f32) (harg11 : arg11.IsWhole)
  (arg12 : Memref sig .tc .vmem S16x128x256 .f32) (harg12 : arg12.IsWhole)
  (arg13 : Memref sig .tc .vmem S16x128x256 .f32) (harg13 : arg13.IsWhole)
  (arg14 : Memref sig .tc .vmem S16x128x128 .f32) (harg14 : arg14.IsWhole)
  (x0 : Vec F S16x128x256 .f32)
  (x1 : Vec F S144x128 .f32)
  (x2 : Vec F S72x256 .f32)
  (x3 : Vec F S72x256 .f32)
  (x4 : Vec F S1x256 .f32)
  (x5 : Vec F S1x256 .f32)
  (x6 : Vec F S128x256 .f32)
  (x7 : Vec F S128x256 .f32)
  (x8 : Vec F S256x256 .f32)
  (x9 : Vec F S128x512 .f32)
  (x10 : Vec F S128x256 .f32)

omit [FloatOps F] in
theorem read_whole2 {n0 n1 : ℕ} (m : Memref sig .tc .vmem (⟨2, ![n0, n1]⟩ : Shape) .f32) (hm : m.IsWhole)
    (x : Vec F (⟨2, ![n0, n1]⟩ : Shape) .f32) (h) :
    View.readAt (Elt F) m.view (Rect.unit (s := ⟨2, ![n0, n1]⟩) ![0, 0] (⟨2, ![n0, n1]⟩ : Shape).size h).toLoadRect (hm.unread x) = x := by
  funext j
  rw [hm.readAt_unread]
  refine congrArg x (funext fun a => Fin.ext ?_)
  fin_cases a <;> exact Nat.zero_add _ |>.trans (Nat.one_mul _)

omit [FloatOps F] in
theorem read_row (k : ℕ) (hk : k < 16) (h) :
    View.readAt (Elt F) arg1.view (Rect.unit (s := S16x128x256) ![k, 0, 0] S1x128x256.size h).toLoadRect (harg1.unread x0)
      = rowVec x0 ⟨k, hk⟩ := by
  funext j
  rw [harg1.readAt_unread]
  refine congrArg x0 (funext fun a => Fin.ext ?_)
  have hj : (j 0).val = 0 := by have : (j 0).val < 1 := (j 0).isLt; omega
  fin_cases a
  · show k + 1 * (j 0).val = k
    omega
  · show 0 + 1 * (j 1).val = (j 1).val
    omega
  · show 0 + 1 * (j 2).val = (j 2).val
    omega

omit [FloatOps F] in
theorem e_r : (kernelRun0_A.sl.r (F := F) c arg2 harg2 x1) = x1 := by
  unfold kernelRun0_A.sl.r k0_pay2
  exact (shapeCast_self _ _).trans (read_whole2 arg2 harg2 x1 _)

omit [FloatOps F] in
theorem e_r_1 : (kernelRun0_A.sl.r_1 (F := F) c arg3 harg3 x2) = x2 := by
  unfold kernelRun0_A.sl.r_1 k0_pay3
  exact (shapeCast_self _ _).trans (read_whole2 arg3 harg3 x2 _)

omit [FloatOps F] in
theorem e_r_2 : (kernelRun0_A.sl.r_2 (F := F) c arg4 harg4 x3) = x3 := by
  unfold kernelRun0_A.sl.r_2 k0_pay4
  exact (shapeCast_self _ _).trans (read_whole2 arg4 harg4 x3 _)

omit [FloatOps F] in
theorem e_r_3 : (kernelRun0_A.sl.r_3 (F := F) c arg5 harg5 x4) = x4 := by
  unfold kernelRun0_A.sl.r_3 k0_pay5
  exact (shapeCast_self _ _).trans (read_whole2 arg5 harg5 x4 _)

omit [FloatOps F] in
theorem e_r_4 : (kernelRun0_A.sl.r_4 (F := F) c arg6 harg6 x5) = x5 := by
  unfold kernelRun0_A.sl.r_4 k0_pay6
  exact (shapeCast_self _ _).trans (read_whole2 arg6 harg6 x5 _)

omit [FloatOps F] in
theorem e_r_5 : (kernelRun0_A.sl.r_5 (F := F) c arg7 harg7 x6) = x6 := by
  unfold kernelRun0_A.sl.r_5 k0_pay7
  exact (shapeCast_self _ _).trans (read_whole2 arg7 harg7 x6 _)

omit [FloatOps F] in
theorem e_r_6 : (kernelRun0_A.sl.r_6 (F := F) c arg8 harg8 x7) = x7 := by
  unfold kernelRun0_A.sl.r_6 k0_pay8
  exact (shapeCast_self _ _).trans (read_whole2 arg8 harg8 x7 _)

omit [FloatOps F] in
theorem e_r_7 : (kernelRun0_A.sl.r_7 (F := F) c arg9 harg9 x8) = x8 := by
  unfold kernelRun0_A.sl.r_7 k0_pay9
  exact (shapeCast_self _ _).trans (read_whole2 arg9 harg9 x8 _)

omit [FloatOps F] in
theorem e_r_8 : (kernelRun0_A.sl.r_8 (F := F) c arg10 harg10 x9) = x9 := by
  unfold kernelRun0_A.sl.r_8 k0_pay10
  exact (shapeCast_self _ _).trans (read_whole2 arg10 harg10 x9 _)

omit [FloatOps F] in
theorem e_r_9 : (kernelRun0_A.sl.r_9 (F := F) c arg11 harg11 x10) = x10 := by
  unfold kernelRun0_A.sl.r_9 k0_pay11
  exact (shapeCast_self _ _).trans (read_whole2 arg11 harg11 x10 _)

theorem e_g0_0 : (kernelRun0_A.sl.r_10 (F := F) c arg1 harg1 arg2 harg2 x0 x1) = sumRow x1 (rowVec x0 ⟨0, by decide⟩) :=
  (rfl : _ = sumRow (kernelRun0_A.sl.r (F := F) c arg2 harg2 x1) (View.readAt (Elt F) arg1.view (Rect.unit (s := S16x128x256) ![0, 0, 0] S1x128x256.size inb_S16x128x256_S1x128x256_0_0_0).toLoadRect (harg1.unread x0))).trans (by
    rw [read_row arg1 harg1 x0 0 (by decide) inb_S16x128x256_S1x128x256_0_0_0, e_r c arg2 harg2 x1])

theorem e_re_0 : (kernelRun0_A.sl.r_13 (F := F) c arg1 harg1 arg2 harg2 arg3 harg3 arg4 harg4 arg5 harg5 arg6 harg6 x0 x1 x2 x3 x4 x5) = zRe x1 x2 x3 x4 x5 (rowVec x0 ⟨0, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![0, 0, 0] S1x128x256.size inb_S16x128x256_S1x128x256_0_0_0).toLoadRect (harg1.unread x0))).trans (by
    rw [read_row arg1 harg1 x0 0 (by decide) inb_S16x128x256_S1x128x256_0_0_0, e_r c arg2 harg2 x1, e_r_1 c arg3 harg3 x2, e_r_2 c arg4 harg4 x3, e_r_3 c arg5 harg5 x4, e_r_4 c arg6 harg6 x5])

theorem e_im_0 : (kernelRun0_A.sl.r_14 (F := F) c arg1 harg1 arg2 harg2 arg3 harg3 arg4 harg4 arg5 harg5 arg6 harg6 x0 x1 x2 x3 x4 x5) = zIm x1 x2 x3 x4 x5 (rowVec x0 ⟨0, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![0, 0, 0] S1x128x256.size inb_S16x128x256_S1x128x256_0_0_0).toLoadRect (harg1.unread x0))).trans (by
    rw [read_row arg1 harg1 x0 0 (by decide) inb_S16x128x256_S1x128x256_0_0_0, e_r c arg2 harg2 x1, e_r_1 c arg3 harg3 x2, e_r_2 c arg4 harg4 x3, e_r_3 c arg5 harg5 x4, e_r_4 c arg6 harg6 x5])

theorem e_g0_1 : (kernelRun0_A.sl.r_15 (F := F) c arg1 harg1 arg2 harg2 x0 x1) = sumRow x1 (rowVec x0 ⟨1, by decide⟩) :=
  (rfl : _ = sumRow (kernelRun0_A.sl.r (F := F) c arg2 harg2 x1) (View.readAt (Elt F) arg1.view (Rect.unit (s := S16x128x256) ![1, 0, 0] S1x128x256.size inb_S16x128x256_S1x128x256_1_0_0).toLoadRect (harg1.unread x0))).trans (by
    rw [read_row arg1 harg1 x0 1 (by decide) inb_S16x128x256_S1x128x256_1_0_0, e_r c arg2 harg2 x1])

theorem e_re_1 : (kernelRun0_A.sl.r_22 (F := F) c arg1 harg1 arg2 harg2 arg3 harg3 arg4 harg4 arg5 harg5 arg6 harg6 x0 x1 x2 x3 x4 x5) = zRe x1 x2 x3 x4 x5 (rowVec x0 ⟨1, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![1, 0, 0] S1x128x256.size inb_S16x128x256_S1x128x256_1_0_0).toLoadRect (harg1.unread x0))).trans (by
    rw [read_row arg1 harg1 x0 1 (by decide) inb_S16x128x256_S1x128x256_1_0_0, e_r c arg2 harg2 x1, e_r_1 c arg3 harg3 x2, e_r_2 c arg4 harg4 x3, e_r_3 c arg5 harg5 x4, e_r_4 c arg6 harg6 x5])

theorem e_im_1 : (kernelRun0_A.sl.r_23 (F := F) c arg1 harg1 arg2 harg2 arg3 harg3 arg4 harg4 arg5 harg5 arg6 harg6 x0 x1 x2 x3 x4 x5) = zIm x1 x2 x3 x4 x5 (rowVec x0 ⟨1, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![1, 0, 0] S1x128x256.size inb_S16x128x256_S1x128x256_1_0_0).toLoadRect (harg1.unread x0))).trans (by
    rw [read_row arg1 harg1 x0 1 (by decide) inb_S16x128x256_S1x128x256_1_0_0, e_r c arg2 harg2 x1, e_r_1 c arg3 harg3 x2, e_r_2 c arg4 harg4 x3, e_r_3 c arg5 harg5 x4, e_r_4 c arg6 harg6 x5])

theorem e_g0_2 : (kernelRun0_A.sl.r_24 (F := F) c arg1 harg1 arg2 harg2 x0 x1) = sumRow x1 (rowVec x0 ⟨2, by decide⟩) :=
  (rfl : _ = sumRow (kernelRun0_A.sl.r (F := F) c arg2 harg2 x1) (View.readAt (Elt F) arg1.view (Rect.unit (s := S16x128x256) ![2, 0, 0] S1x128x256.size inb_S16x128x256_S1x128x256_2_0_0).toLoadRect (harg1.unread x0))).trans (by
    rw [read_row arg1 harg1 x0 2 (by decide) inb_S16x128x256_S1x128x256_2_0_0, e_r c arg2 harg2 x1])

theorem e_re_2 : (kernelRun0_A.sl.r_25 (F := F) c arg1 harg1 arg2 harg2 arg3 harg3 arg4 harg4 arg5 harg5 arg6 harg6 x0 x1 x2 x3 x4 x5) = zRe x1 x2 x3 x4 x5 (rowVec x0 ⟨2, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![2, 0, 0] S1x128x256.size inb_S16x128x256_S1x128x256_2_0_0).toLoadRect (harg1.unread x0))).trans (by
    rw [read_row arg1 harg1 x0 2 (by decide) inb_S16x128x256_S1x128x256_2_0_0, e_r c arg2 harg2 x1, e_r_1 c arg3 harg3 x2, e_r_2 c arg4 harg4 x3, e_r_3 c arg5 harg5 x4, e_r_4 c arg6 harg6 x5])

theorem e_im_2 : (kernelRun0_A.sl.r_26 (F := F) c arg1 harg1 arg2 harg2 arg3 harg3 arg4 harg4 arg5 harg5 arg6 harg6 x0 x1 x2 x3 x4 x5) = zIm x1 x2 x3 x4 x5 (rowVec x0 ⟨2, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![2, 0, 0] S1x128x256.size inb_S16x128x256_S1x128x256_2_0_0).toLoadRect (harg1.unread x0))).trans (by
    rw [read_row arg1 harg1 x0 2 (by decide) inb_S16x128x256_S1x128x256_2_0_0, e_r c arg2 harg2 x1, e_r_1 c arg3 harg3 x2, e_r_2 c arg4 harg4 x3, e_r_3 c arg5 harg5 x4, e_r_4 c arg6 harg6 x5])

theorem e_g0_3 : (kernelRun0_A.sl.r_27 (F := F) c arg1 harg1 arg2 harg2 x0 x1) = sumRow x1 (rowVec x0 ⟨3, by decide⟩) :=
  (rfl : _ = sumRow (kernelRun0_A.sl.r (F := F) c arg2 harg2 x1) (View.readAt (Elt F) arg1.view (Rect.unit (s := S16x128x256) ![3, 0, 0] S1x128x256.size inb_S16x128x256_S1x128x256_3_0_0).toLoadRect (harg1.unread x0))).trans (by
    rw [read_row arg1 harg1 x0 3 (by decide) inb_S16x128x256_S1x128x256_3_0_0, e_r c arg2 harg2 x1])

theorem e_re_3 : (kernelRun0_A.sl.r_28 (F := F) c arg1 harg1 arg2 harg2 arg3 harg3 arg4 harg4 arg5 harg5 arg6 harg6 x0 x1 x2 x3 x4 x5) = zRe x1 x2 x3 x4 x5 (rowVec x0 ⟨3, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![3, 0, 0] S1x128x256.size inb_S16x128x256_S1x128x256_3_0_0).toLoadRect (harg1.unread x0))).trans (by
    rw [read_row arg1 harg1 x0 3 (by decide) inb_S16x128x256_S1x128x256_3_0_0, e_r c arg2 harg2 x1, e_r_1 c arg3 harg3 x2, e_r_2 c arg4 harg4 x3, e_r_3 c arg5 harg5 x4, e_r_4 c arg6 harg6 x5])

theorem e_im_3 : (kernelRun0_A.sl.r_29 (F := F) c arg1 harg1 arg2 harg2 arg3 harg3 arg4 harg4 arg5 harg5 arg6 harg6 x0 x1 x2 x3 x4 x5) = zIm x1 x2 x3 x4 x5 (rowVec x0 ⟨3, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![3, 0, 0] S1x128x256.size inb_S16x128x256_S1x128x256_3_0_0).toLoadRect (harg1.unread x0))).trans (by
    rw [read_row arg1 harg1 x0 3 (by decide) inb_S16x128x256_S1x128x256_3_0_0, e_r c arg2 harg2 x1, e_r_1 c arg3 harg3 x2, e_r_2 c arg4 harg4 x3, e_r_3 c arg5 harg5 x4, e_r_4 c arg6 harg6 x5])

theorem e_g0_4 : (kernelRun0_A.sl.r_31 (F := F) c arg1 harg1 arg2 harg2 x0 x1) = sumRow x1 (rowVec x0 ⟨4, by decide⟩) :=
  (rfl : _ = sumRow (kernelRun0_A.sl.r (F := F) c arg2 harg2 x1) (View.readAt (Elt F) arg1.view (Rect.unit (s := S16x128x256) ![4, 0, 0] S1x128x256.size inb_S16x128x256_S1x128x256_4_0_0).toLoadRect (harg1.unread x0))).trans (by
    rw [read_row arg1 harg1 x0 4 (by decide) inb_S16x128x256_S1x128x256_4_0_0, e_r c arg2 harg2 x1])

theorem e_re_4 : (kernelRun0_A.sl.r_34 (F := F) c arg1 harg1 arg2 harg2 arg3 harg3 arg4 harg4 arg5 harg5 arg6 harg6 x0 x1 x2 x3 x4 x5) = zRe x1 x2 x3 x4 x5 (rowVec x0 ⟨4, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![4, 0, 0] S1x128x256.size inb_S16x128x256_S1x128x256_4_0_0).toLoadRect (harg1.unread x0))).trans (by
    rw [read_row arg1 harg1 x0 4 (by decide) inb_S16x128x256_S1x128x256_4_0_0, e_r c arg2 harg2 x1, e_r_1 c arg3 harg3 x2, e_r_2 c arg4 harg4 x3, e_r_3 c arg5 harg5 x4, e_r_4 c arg6 harg6 x5])

theorem e_im_4 : (kernelRun0_A.sl.r_35 (F := F) c arg1 harg1 arg2 harg2 arg3 harg3 arg4 harg4 arg5 harg5 arg6 harg6 x0 x1 x2 x3 x4 x5) = zIm x1 x2 x3 x4 x5 (rowVec x0 ⟨4, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![4, 0, 0] S1x128x256.size inb_S16x128x256_S1x128x256_4_0_0).toLoadRect (harg1.unread x0))).trans (by
    rw [read_row arg1 harg1 x0 4 (by decide) inb_S16x128x256_S1x128x256_4_0_0, e_r c arg2 harg2 x1, e_r_1 c arg3 harg3 x2, e_r_2 c arg4 harg4 x3, e_r_3 c arg5 harg5 x4, e_r_4 c arg6 harg6 x5])

theorem e_g0_5 : (kernelRun0_A.sl.r_36 (F := F) c arg1 harg1 arg2 harg2 x0 x1) = sumRow x1 (rowVec x0 ⟨5, by decide⟩) :=
  (rfl : _ = sumRow (kernelRun0_A.sl.r (F := F) c arg2 harg2 x1) (View.readAt (Elt F) arg1.view (Rect.unit (s := S16x128x256) ![5, 0, 0] S1x128x256.size inb_S16x128x256_S1x128x256_5_0_0).toLoadRect (harg1.unread x0))).trans (by
    rw [read_row arg1 harg1 x0 5 (by decide) inb_S16x128x256_S1x128x256_5_0_0, e_r c arg2 harg2 x1])

theorem e_re_5 : (kernelRun0_A.sl.r_44 (F := F) c arg1 harg1 arg2 harg2 arg3 harg3 arg4 harg4 arg5 harg5 arg6 harg6 x0 x1 x2 x3 x4 x5) = zRe x1 x2 x3 x4 x5 (rowVec x0 ⟨5, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![5, 0, 0] S1x128x256.size inb_S16x128x256_S1x128x256_5_0_0).toLoadRect (harg1.unread x0))).trans (by
    rw [read_row arg1 harg1 x0 5 (by decide) inb_S16x128x256_S1x128x256_5_0_0, e_r c arg2 harg2 x1, e_r_1 c arg3 harg3 x2, e_r_2 c arg4 harg4 x3, e_r_3 c arg5 harg5 x4, e_r_4 c arg6 harg6 x5])

theorem e_im_5 : (kernelRun0_A.sl.r_45 (F := F) c arg1 harg1 arg2 harg2 arg3 harg3 arg4 harg4 arg5 harg5 arg6 harg6 x0 x1 x2 x3 x4 x5) = zIm x1 x2 x3 x4 x5 (rowVec x0 ⟨5, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![5, 0, 0] S1x128x256.size inb_S16x128x256_S1x128x256_5_0_0).toLoadRect (harg1.unread x0))).trans (by
    rw [read_row arg1 harg1 x0 5 (by decide) inb_S16x128x256_S1x128x256_5_0_0, e_r c arg2 harg2 x1, e_r_1 c arg3 harg3 x2, e_r_2 c arg4 harg4 x3, e_r_3 c arg5 harg5 x4, e_r_4 c arg6 harg6 x5])

theorem e_g0_6 : (kernelRun0_A.sl.r_46 (F := F) c arg1 harg1 arg2 harg2 x0 x1) = sumRow x1 (rowVec x0 ⟨6, by decide⟩) :=
  (rfl : _ = sumRow (kernelRun0_A.sl.r (F := F) c arg2 harg2 x1) (View.readAt (Elt F) arg1.view (Rect.unit (s := S16x128x256) ![6, 0, 0] S1x128x256.size inb_S16x128x256_S1x128x256_6_0_0).toLoadRect (harg1.unread x0))).trans (by
    rw [read_row arg1 harg1 x0 6 (by decide) inb_S16x128x256_S1x128x256_6_0_0, e_r c arg2 harg2 x1])

theorem e_re_6 : (kernelRun0_A.sl.r_52 (F := F) c arg1 harg1 arg2 harg2 arg3 harg3 arg4 harg4 arg5 harg5 arg6 harg6 x0 x1 x2 x3 x4 x5) = zRe x1 x2 x3 x4 x5 (rowVec x0 ⟨6, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![6, 0, 0] S1x128x256.size inb_S16x128x256_S1x128x256_6_0_0).toLoadRect (harg1.unread x0))).trans (by
    rw [read_row arg1 harg1 x0 6 (by decide) inb_S16x128x256_S1x128x256_6_0_0, e_r c arg2 harg2 x1, e_r_1 c arg3 harg3 x2, e_r_2 c arg4 harg4 x3, e_r_3 c arg5 harg5 x4, e_r_4 c arg6 harg6 x5])

theorem e_im_6 : (kernelRun0_A.sl.r_53 (F := F) c arg1 harg1 arg2 harg2 arg3 harg3 arg4 harg4 arg5 harg5 arg6 harg6 x0 x1 x2 x3 x4 x5) = zIm x1 x2 x3 x4 x5 (rowVec x0 ⟨6, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![6, 0, 0] S1x128x256.size inb_S16x128x256_S1x128x256_6_0_0).toLoadRect (harg1.unread x0))).trans (by
    rw [read_row arg1 harg1 x0 6 (by decide) inb_S16x128x256_S1x128x256_6_0_0, e_r c arg2 harg2 x1, e_r_1 c arg3 harg3 x2, e_r_2 c arg4 harg4 x3, e_r_3 c arg5 harg5 x4, e_r_4 c arg6 harg6 x5])

theorem e_g0_7 : (kernelRun0_A.sl.r_54 (F := F) c arg1 harg1 arg2 harg2 x0 x1) = sumRow x1 (rowVec x0 ⟨7, by decide⟩) :=
  (rfl : _ = sumRow (kernelRun0_A.sl.r (F := F) c arg2 harg2 x1) (View.readAt (Elt F) arg1.view (Rect.unit (s := S16x128x256) ![7, 0, 0] S1x128x256.size inb_S16x128x256_S1x128x256_7_0_0).toLoadRect (harg1.unread x0))).trans (by
    rw [read_row arg1 harg1 x0 7 (by decide) inb_S16x128x256_S1x128x256_7_0_0, e_r c arg2 harg2 x1])

theorem e_re_7 : (kernelRun0_A.sl.r_55 (F := F) c arg1 harg1 arg2 harg2 arg3 harg3 arg4 harg4 arg5 harg5 arg6 harg6 x0 x1 x2 x3 x4 x5) = zRe x1 x2 x3 x4 x5 (rowVec x0 ⟨7, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![7, 0, 0] S1x128x256.size inb_S16x128x256_S1x128x256_7_0_0).toLoadRect (harg1.unread x0))).trans (by
    rw [read_row arg1 harg1 x0 7 (by decide) inb_S16x128x256_S1x128x256_7_0_0, e_r c arg2 harg2 x1, e_r_1 c arg3 harg3 x2, e_r_2 c arg4 harg4 x3, e_r_3 c arg5 harg5 x4, e_r_4 c arg6 harg6 x5])

theorem e_im_7 : (kernelRun0_A.sl.r_56 (F := F) c arg1 harg1 arg2 harg2 arg3 harg3 arg4 harg4 arg5 harg5 arg6 harg6 x0 x1 x2 x3 x4 x5) = zIm x1 x2 x3 x4 x5 (rowVec x0 ⟨7, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![7, 0, 0] S1x128x256.size inb_S16x128x256_S1x128x256_7_0_0).toLoadRect (harg1.unread x0))).trans (by
    rw [read_row arg1 harg1 x0 7 (by decide) inb_S16x128x256_S1x128x256_7_0_0, e_r c arg2 harg2 x1, e_r_1 c arg3 harg3 x2, e_r_2 c arg4 harg4 x3, e_r_3 c arg5 harg5 x4, e_r_4 c arg6 harg6 x5])

theorem e_g0_8 : (kernelRun0_A.sl.r_58 (F := F) c arg1 harg1 arg2 harg2 x0 x1) = sumRow x1 (rowVec x0 ⟨8, by decide⟩) :=
  (rfl : _ = sumRow (kernelRun0_A.sl.r (F := F) c arg2 harg2 x1) (View.readAt (Elt F) arg1.view (Rect.unit (s := S16x128x256) ![8, 0, 0] S1x128x256.size inb_S16x128x256_S1x128x256_8_0_0).toLoadRect (harg1.unread x0))).trans (by
    rw [read_row arg1 harg1 x0 8 (by decide) inb_S16x128x256_S1x128x256_8_0_0, e_r c arg2 harg2 x1])

theorem e_re_8 : (kernelRun0_A.sl.r_60 (F := F) c arg1 harg1 arg2 harg2 arg3 harg3 arg4 harg4 arg5 harg5 arg6 harg6 x0 x1 x2 x3 x4 x5) = zRe x1 x2 x3 x4 x5 (rowVec x0 ⟨8, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![8, 0, 0] S1x128x256.size inb_S16x128x256_S1x128x256_8_0_0).toLoadRect (harg1.unread x0))).trans (by
    rw [read_row arg1 harg1 x0 8 (by decide) inb_S16x128x256_S1x128x256_8_0_0, e_r c arg2 harg2 x1, e_r_1 c arg3 harg3 x2, e_r_2 c arg4 harg4 x3, e_r_3 c arg5 harg5 x4, e_r_4 c arg6 harg6 x5])

theorem e_im_8 : (kernelRun0_A.sl.r_61 (F := F) c arg1 harg1 arg2 harg2 arg3 harg3 arg4 harg4 arg5 harg5 arg6 harg6 x0 x1 x2 x3 x4 x5) = zIm x1 x2 x3 x4 x5 (rowVec x0 ⟨8, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![8, 0, 0] S1x128x256.size inb_S16x128x256_S1x128x256_8_0_0).toLoadRect (harg1.unread x0))).trans (by
    rw [read_row arg1 harg1 x0 8 (by decide) inb_S16x128x256_S1x128x256_8_0_0, e_r c arg2 harg2 x1, e_r_1 c arg3 harg3 x2, e_r_2 c arg4 harg4 x3, e_r_3 c arg5 harg5 x4, e_r_4 c arg6 harg6 x5])

theorem e_g0_9 : (kernelRun0_A.sl.r_62 (F := F) c arg1 harg1 arg2 harg2 x0 x1) = sumRow x1 (rowVec x0 ⟨9, by decide⟩) :=
  (rfl : _ = sumRow (kernelRun0_A.sl.r (F := F) c arg2 harg2 x1) (View.readAt (Elt F) arg1.view (Rect.unit (s := S16x128x256) ![9, 0, 0] S1x128x256.size inb_S16x128x256_S1x128x256_9_0_0).toLoadRect (harg1.unread x0))).trans (by
    rw [read_row arg1 harg1 x0 9 (by decide) inb_S16x128x256_S1x128x256_9_0_0, e_r c arg2 harg2 x1])

theorem e_re_9 : (kernelRun0_A.sl.r_69 (F := F) c arg1 harg1 arg2 harg2 arg3 harg3 arg4 harg4 arg5 harg5 arg6 harg6 x0 x1 x2 x3 x4 x5) = zRe x1 x2 x3 x4 x5 (rowVec x0 ⟨9, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![9, 0, 0] S1x128x256.size inb_S16x128x256_S1x128x256_9_0_0).toLoadRect (harg1.unread x0))).trans (by
    rw [read_row arg1 harg1 x0 9 (by decide) inb_S16x128x256_S1x128x256_9_0_0, e_r c arg2 harg2 x1, e_r_1 c arg3 harg3 x2, e_r_2 c arg4 harg4 x3, e_r_3 c arg5 harg5 x4, e_r_4 c arg6 harg6 x5])

theorem e_im_9 : (kernelRun0_A.sl.r_70 (F := F) c arg1 harg1 arg2 harg2 arg3 harg3 arg4 harg4 arg5 harg5 arg6 harg6 x0 x1 x2 x3 x4 x5) = zIm x1 x2 x3 x4 x5 (rowVec x0 ⟨9, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![9, 0, 0] S1x128x256.size inb_S16x128x256_S1x128x256_9_0_0).toLoadRect (harg1.unread x0))).trans (by
    rw [read_row arg1 harg1 x0 9 (by decide) inb_S16x128x256_S1x128x256_9_0_0, e_r c arg2 harg2 x1, e_r_1 c arg3 harg3 x2, e_r_2 c arg4 harg4 x3, e_r_3 c arg5 harg5 x4, e_r_4 c arg6 harg6 x5])

theorem e_g0_10 : (kernelRun0_A.sl.r_71 (F := F) c arg1 harg1 arg2 harg2 x0 x1) = sumRow x1 (rowVec x0 ⟨10, by decide⟩) :=
  (rfl : _ = sumRow (kernelRun0_A.sl.r (F := F) c arg2 harg2 x1) (View.readAt (Elt F) arg1.view (Rect.unit (s := S16x128x256) ![10, 0, 0] S1x128x256.size inb_S16x128x256_S1x128x256_10_0_0).toLoadRect (harg1.unread x0))).trans (by
    rw [read_row arg1 harg1 x0 10 (by decide) inb_S16x128x256_S1x128x256_10_0_0, e_r c arg2 harg2 x1])

theorem e_re_10 : (kernelRun0_A.sl.r_77 (F := F) c arg1 harg1 arg2 harg2 arg3 harg3 arg4 harg4 arg5 harg5 arg6 harg6 x0 x1 x2 x3 x4 x5) = zRe x1 x2 x3 x4 x5 (rowVec x0 ⟨10, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![10, 0, 0] S1x128x256.size inb_S16x128x256_S1x128x256_10_0_0).toLoadRect (harg1.unread x0))).trans (by
    rw [read_row arg1 harg1 x0 10 (by decide) inb_S16x128x256_S1x128x256_10_0_0, e_r c arg2 harg2 x1, e_r_1 c arg3 harg3 x2, e_r_2 c arg4 harg4 x3, e_r_3 c arg5 harg5 x4, e_r_4 c arg6 harg6 x5])

theorem e_im_10 : (kernelRun0_A.sl.r_78 (F := F) c arg1 harg1 arg2 harg2 arg3 harg3 arg4 harg4 arg5 harg5 arg6 harg6 x0 x1 x2 x3 x4 x5) = zIm x1 x2 x3 x4 x5 (rowVec x0 ⟨10, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![10, 0, 0] S1x128x256.size inb_S16x128x256_S1x128x256_10_0_0).toLoadRect (harg1.unread x0))).trans (by
    rw [read_row arg1 harg1 x0 10 (by decide) inb_S16x128x256_S1x128x256_10_0_0, e_r c arg2 harg2 x1, e_r_1 c arg3 harg3 x2, e_r_2 c arg4 harg4 x3, e_r_3 c arg5 harg5 x4, e_r_4 c arg6 harg6 x5])

theorem e_g0_11 : (kernelRun0_A.sl.r_79 (F := F) c arg1 harg1 arg2 harg2 x0 x1) = sumRow x1 (rowVec x0 ⟨11, by decide⟩) :=
  (rfl : _ = sumRow (kernelRun0_A.sl.r (F := F) c arg2 harg2 x1) (View.readAt (Elt F) arg1.view (Rect.unit (s := S16x128x256) ![11, 0, 0] S1x128x256.size inb_S16x128x256_S1x128x256_11_0_0).toLoadRect (harg1.unread x0))).trans (by
    rw [read_row arg1 harg1 x0 11 (by decide) inb_S16x128x256_S1x128x256_11_0_0, e_r c arg2 harg2 x1])

theorem e_re_11 : (kernelRun0_A.sl.r_80 (F := F) c arg1 harg1 arg2 harg2 arg3 harg3 arg4 harg4 arg5 harg5 arg6 harg6 x0 x1 x2 x3 x4 x5) = zRe x1 x2 x3 x4 x5 (rowVec x0 ⟨11, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![11, 0, 0] S1x128x256.size inb_S16x128x256_S1x128x256_11_0_0).toLoadRect (harg1.unread x0))).trans (by
    rw [read_row arg1 harg1 x0 11 (by decide) inb_S16x128x256_S1x128x256_11_0_0, e_r c arg2 harg2 x1, e_r_1 c arg3 harg3 x2, e_r_2 c arg4 harg4 x3, e_r_3 c arg5 harg5 x4, e_r_4 c arg6 harg6 x5])

theorem e_im_11 : (kernelRun0_A.sl.r_81 (F := F) c arg1 harg1 arg2 harg2 arg3 harg3 arg4 harg4 arg5 harg5 arg6 harg6 x0 x1 x2 x3 x4 x5) = zIm x1 x2 x3 x4 x5 (rowVec x0 ⟨11, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![11, 0, 0] S1x128x256.size inb_S16x128x256_S1x128x256_11_0_0).toLoadRect (harg1.unread x0))).trans (by
    rw [read_row arg1 harg1 x0 11 (by decide) inb_S16x128x256_S1x128x256_11_0_0, e_r c arg2 harg2 x1, e_r_1 c arg3 harg3 x2, e_r_2 c arg4 harg4 x3, e_r_3 c arg5 harg5 x4, e_r_4 c arg6 harg6 x5])

theorem e_g0_12 : (kernelRun0_A.sl.r_83 (F := F) c arg1 harg1 arg2 harg2 x0 x1) = sumRow x1 (rowVec x0 ⟨12, by decide⟩) :=
  (rfl : _ = sumRow (kernelRun0_A.sl.r (F := F) c arg2 harg2 x1) (View.readAt (Elt F) arg1.view (Rect.unit (s := S16x128x256) ![12, 0, 0] S1x128x256.size inb_S16x128x256_S1x128x256_12_0_0).toLoadRect (harg1.unread x0))).trans (by
    rw [read_row arg1 harg1 x0 12 (by decide) inb_S16x128x256_S1x128x256_12_0_0, e_r c arg2 harg2 x1])

theorem e_re_12 : (kernelRun0_A.sl.r_84 (F := F) c arg1 harg1 arg2 harg2 arg3 harg3 arg4 harg4 arg5 harg5 arg6 harg6 x0 x1 x2 x3 x4 x5) = zRe x1 x2 x3 x4 x5 (rowVec x0 ⟨12, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![12, 0, 0] S1x128x256.size inb_S16x128x256_S1x128x256_12_0_0).toLoadRect (harg1.unread x0))).trans (by
    rw [read_row arg1 harg1 x0 12 (by decide) inb_S16x128x256_S1x128x256_12_0_0, e_r c arg2 harg2 x1, e_r_1 c arg3 harg3 x2, e_r_2 c arg4 harg4 x3, e_r_3 c arg5 harg5 x4, e_r_4 c arg6 harg6 x5])

theorem e_im_12 : (kernelRun0_A.sl.r_85 (F := F) c arg1 harg1 arg2 harg2 arg3 harg3 arg4 harg4 arg5 harg5 arg6 harg6 x0 x1 x2 x3 x4 x5) = zIm x1 x2 x3 x4 x5 (rowVec x0 ⟨12, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![12, 0, 0] S1x128x256.size inb_S16x128x256_S1x128x256_12_0_0).toLoadRect (harg1.unread x0))).trans (by
    rw [read_row arg1 harg1 x0 12 (by decide) inb_S16x128x256_S1x128x256_12_0_0, e_r c arg2 harg2 x1, e_r_1 c arg3 harg3 x2, e_r_2 c arg4 harg4 x3, e_r_3 c arg5 harg5 x4, e_r_4 c arg6 harg6 x5])

theorem e_g0_13 : (kernelRun0_A.sl.r_86 (F := F) c arg1 harg1 arg2 harg2 x0 x1) = sumRow x1 (rowVec x0 ⟨13, by decide⟩) :=
  (rfl : _ = sumRow (kernelRun0_A.sl.r (F := F) c arg2 harg2 x1) (View.readAt (Elt F) arg1.view (Rect.unit (s := S16x128x256) ![13, 0, 0] S1x128x256.size inb_S16x128x256_S1x128x256_13_0_0).toLoadRect (harg1.unread x0))).trans (by
    rw [read_row arg1 harg1 x0 13 (by decide) inb_S16x128x256_S1x128x256_13_0_0, e_r c arg2 harg2 x1])

theorem e_re_13 : (kernelRun0_A.sl.r_91 (F := F) c arg1 harg1 arg2 harg2 arg3 harg3 arg4 harg4 arg5 harg5 arg6 harg6 x0 x1 x2 x3 x4 x5) = zRe x1 x2 x3 x4 x5 (rowVec x0 ⟨13, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![13, 0, 0] S1x128x256.size inb_S16x128x256_S1x128x256_13_0_0).toLoadRect (harg1.unread x0))).trans (by
    rw [read_row arg1 harg1 x0 13 (by decide) inb_S16x128x256_S1x128x256_13_0_0, e_r c arg2 harg2 x1, e_r_1 c arg3 harg3 x2, e_r_2 c arg4 harg4 x3, e_r_3 c arg5 harg5 x4, e_r_4 c arg6 harg6 x5])

theorem e_im_13 : (kernelRun0_A.sl.r_92 (F := F) c arg1 harg1 arg2 harg2 arg3 harg3 arg4 harg4 arg5 harg5 arg6 harg6 x0 x1 x2 x3 x4 x5) = zIm x1 x2 x3 x4 x5 (rowVec x0 ⟨13, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![13, 0, 0] S1x128x256.size inb_S16x128x256_S1x128x256_13_0_0).toLoadRect (harg1.unread x0))).trans (by
    rw [read_row arg1 harg1 x0 13 (by decide) inb_S16x128x256_S1x128x256_13_0_0, e_r c arg2 harg2 x1, e_r_1 c arg3 harg3 x2, e_r_2 c arg4 harg4 x3, e_r_3 c arg5 harg5 x4, e_r_4 c arg6 harg6 x5])

theorem e_g0_14 : (kernelRun0_A.sl.r_93 (F := F) c arg1 harg1 arg2 harg2 x0 x1) = sumRow x1 (rowVec x0 ⟨14, by decide⟩) :=
  (rfl : _ = sumRow (kernelRun0_A.sl.r (F := F) c arg2 harg2 x1) (View.readAt (Elt F) arg1.view (Rect.unit (s := S16x128x256) ![14, 0, 0] S1x128x256.size inb_S16x128x256_S1x128x256_14_0_0).toLoadRect (harg1.unread x0))).trans (by
    rw [read_row arg1 harg1 x0 14 (by decide) inb_S16x128x256_S1x128x256_14_0_0, e_r c arg2 harg2 x1])

theorem e_re_14 : (kernelRun0_A.sl.r_100 (F := F) c arg1 harg1 arg2 harg2 arg3 harg3 arg4 harg4 arg5 harg5 arg6 harg6 x0 x1 x2 x3 x4 x5) = zRe x1 x2 x3 x4 x5 (rowVec x0 ⟨14, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![14, 0, 0] S1x128x256.size inb_S16x128x256_S1x128x256_14_0_0).toLoadRect (harg1.unread x0))).trans (by
    rw [read_row arg1 harg1 x0 14 (by decide) inb_S16x128x256_S1x128x256_14_0_0, e_r c arg2 harg2 x1, e_r_1 c arg3 harg3 x2, e_r_2 c arg4 harg4 x3, e_r_3 c arg5 harg5 x4, e_r_4 c arg6 harg6 x5])

theorem e_im_14 : (kernelRun0_A.sl.r_101 (F := F) c arg1 harg1 arg2 harg2 arg3 harg3 arg4 harg4 arg5 harg5 arg6 harg6 x0 x1 x2 x3 x4 x5) = zIm x1 x2 x3 x4 x5 (rowVec x0 ⟨14, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![14, 0, 0] S1x128x256.size inb_S16x128x256_S1x128x256_14_0_0).toLoadRect (harg1.unread x0))).trans (by
    rw [read_row arg1 harg1 x0 14 (by decide) inb_S16x128x256_S1x128x256_14_0_0, e_r c arg2 harg2 x1, e_r_1 c arg3 harg3 x2, e_r_2 c arg4 harg4 x3, e_r_3 c arg5 harg5 x4, e_r_4 c arg6 harg6 x5])

theorem e_g0_15 : (kernelRun0_A.sl.r_102 (F := F) c arg1 harg1 arg2 harg2 x0 x1) = sumRow x1 (rowVec x0 ⟨15, by decide⟩) :=
  (rfl : _ = sumRow (kernelRun0_A.sl.r (F := F) c arg2 harg2 x1) (View.readAt (Elt F) arg1.view (Rect.unit (s := S16x128x256) ![15, 0, 0] S1x128x256.size inb_S16x128x256_S1x128x256_15_0_0).toLoadRect (harg1.unread x0))).trans (by
    rw [read_row arg1 harg1 x0 15 (by decide) inb_S16x128x256_S1x128x256_15_0_0, e_r c arg2 harg2 x1])

theorem e_re_15 : (kernelRun0_A.sl.r_103 (F := F) c arg1 harg1 arg2 harg2 arg3 harg3 arg4 harg4 arg5 harg5 arg6 harg6 x0 x1 x2 x3 x4 x5) = zRe x1 x2 x3 x4 x5 (rowVec x0 ⟨15, by decide⟩) :=
  (rfl : _ = zRe (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![15, 0, 0] S1x128x256.size inb_S16x128x256_S1x128x256_15_0_0).toLoadRect (harg1.unread x0))).trans (by
    rw [read_row arg1 harg1 x0 15 (by decide) inb_S16x128x256_S1x128x256_15_0_0, e_r c arg2 harg2 x1, e_r_1 c arg3 harg3 x2, e_r_2 c arg4 harg4 x3, e_r_3 c arg5 harg5 x4, e_r_4 c arg6 harg6 x5])

theorem e_im_15 : (kernelRun0_A.sl.r_104 (F := F) c arg1 harg1 arg2 harg2 arg3 harg3 arg4 harg4 arg5 harg5 arg6 harg6 x0 x1 x2 x3 x4 x5) = zIm x1 x2 x3 x4 x5 (rowVec x0 ⟨15, by decide⟩) :=
  (rfl : _ = zIm (kernelRun0_A.sl.r (F := F) c arg2 harg2 x1) (kernelRun0_A.sl.r_1 (F := F) c arg3 harg3 x2) (kernelRun0_A.sl.r_2 (F := F) c arg4 harg4 x3) (kernelRun0_A.sl.r_3 (F := F) c arg5 harg5 x4) (kernelRun0_A.sl.r_4 (F := F) c arg6 harg6 x5) (View.readAt (Elt F) arg1.view (Rect.unit (s := S16x128x256) ![15, 0, 0] S1x128x256.size inb_S16x128x256_S1x128x256_15_0_0).toLoadRect (harg1.unread x0))).trans (by
    rw [read_row arg1 harg1 x0 15 (by decide) inb_S16x128x256_S1x128x256_15_0_0, e_r c arg2 harg2 x1, e_r_1 c arg3 harg3 x2, e_r_2 c arg4 harg4 x3, e_r_3 c arg5 harg5 x4, e_r_4 c arg6 harg6 x5])

end Cert.KernelIdeal.Hand
-- ==== Proof.Block.lean ====
/-
  What the body leaves in its two output blocks, row by row, in terms of the rows' first stage, the stacked second stage,
  the kept bins and the last stage.
-/
module

public import proofs.«01_k».proof.Proof.Rows
public import Idealize.ShloMosaic.Lib.VecWindow

@[expose] public section

set_option maxRecDepth 16384

noncomputable section

namespace Cert.KernelIdeal.Hand

open Idealize.ShloMosaic Cert.KernelIdeal Cert.KernelIdeal.Gen

variable {F : FTy → Type} [FloatOps F]

/-- Sixteen rows' first stages stacked. -/
def stackZ (f : Fin 16 → FVec F S128x256 .f32) : FVec F S16x128x256 .f32 :=
  k0_pay164 (f 0) (f 1) (f 2) (f 3) (f 4) (f 5) (f 6) (f 7) (f 8) (f 9) (f 10) (f 11) (f 12) (f 13) (f 14) (f 15)

/-- The last bin of each of sixteen rows, from their rows of column sums. -/
def lastBin (f : Fin 16 → FVec F S1x256 .f32) : FVec F S16x1x1 .f32 :=
  k0_pay167 (f 0) (f 1) (f 2) (f 3) (f 4) (f 5) (f 6) (f 7) (f 8) (f 9) (f 10) (f 11) (f 12) (f 13) (f 14) (f 15) k0_pay165 kernelRun0_A.sl.cst_103 kernelRun0_A.sl.cst_104

/-- The squared magnitudes, the last bin's in the zero bin's place. -/
def power (n : FVec F S16x1x1 .f32) (a b : FVec F S16x128x128 .f32) : FVec F S16x128x128 .f32 :=
  select (broadcastTo S16x128x128 (shapeCast S1x128x128 k0_pay171 shapeCasts_S128x128_S1x128x128) broadcasts_S1x128x128_S16x128x128)
    (broadcastTo S16x128x128 (shapeCast S16x1x1 (mulf n n) shapeCasts_S16x1x1_S16x1x1) broadcasts_S16x1x1_S16x128x128)
    (addf (mulf a a) (mulf b b))

/-- The largest magnitude left in each row. -/
def top (p : FVec F S16x128x128 .f32) : FVec F S16x1x1 .f32 := k0_pay174 p

/-- Where a row's largest magnitude is. -/
def atTop (p : FVec F S16x128x128 .f32) : IVec S16x128x128 1 := k0_pay175 p

/-- How often a row's largest magnitude occurs. -/
def topCount (p : FVec F S16x128x128 .f32) : FVec F S16x1x1 .f32 :=
  shapeCast S16x1x1 (multiReduction .add [2] S16x1 (shapeCast S16x1x128 (multiReduction .add [1] S16x128
      (sitofp .f32 (extui 32 (atTop p) natLt_1_32)) 0x00000000#32 reduces_S16x128x128_S16x128 (.inl rfl) rfl)
      shapeCasts_S16x128_S16x1x128) 0x00000000#32 reduces_S16x1x128_S16x1 (.inl rfl) rfl) shapeCasts_S16x1_S16x1x1

/-- The magnitudes with the largest ones crossed out. -/
def crossed (p : FVec F S16x128x128 .f32) : FVec F S16x128x128 .f32 :=
  select (atTop p) (broadcast S16x128x128 (Scalar.ofBits .f32 0xBF800000#32)) p

/-- Whether at least five bins are counted. -/
def five (n : FVec F S16x1x1 .f32) : IVec S16x1x1 1 := cmpf .oge n (broadcast S16x1x1 (Scalar.ofBits .f32 0x40A00000#32))

/-- The fifth largest magnitude of each row. -/
def fifth (p : FVec F S16x128x128 .f32) : FVec F S16x1x1 .f32 :=
  let p1 := crossed p
  let p2 := crossed p1
  let p3 := crossed p2
  let p4 := crossed p3
  let c1 := addf (broadcast S16x1x1 (Scalar.ofBits .f32 0x00000000#32)) (topCount p)
  let c2 := addf c1 (topCount p1)
  let c3 := addf c2 (topCount p2)
  let c4 := addf c3 (topCount p3)
  select (five c1) (top p) (select (five c2) (top p1) (select (five c3) (top p2) (select (five c4) (top p3) (top p4))))

/-- The bins kept: those above the fifth largest magnitude by the margin. -/
def kept (p : FVec F S16x128x128 .f32) : IVec S16x128x128 1 :=
  cmpf .ogt p (broadcastTo S16x128x128 (mulf (fifth p) (broadcast S16x1x1
    (Scalar.addf (Scalar.ofBits .f32 0x3F800000#32) (Scalar.ofBits .f32 0x35000000#32)))) broadcasts_S16x1x1_S16x128x128)

/-- The last stage before the closing product, real parts above the imaginary ones. -/
def lastStage (v11 v13 : FVec F S128x256 .f32) (v17 : FVec F S128x512 .f32) (a b : FVec F S16x128x128 .f32)
    (k : IVec S16x128x128 1) : FVec F S16x256x256 .f32 := k0_pay187 v11 v13 v17 a b k (k0_pay186 (k0_pay171))

/-- The alternating term of the last bin. -/
def altTerm (n : FVec F S16x1x1 .f32) (k : IVec S16x128x128 1) : FVec F S16x1x256 .f32 :=
  k0_pay188 (k0_pay166 k0_pay165 kernelRun0_A.sl.cst_103 kernelRun0_A.sl.cst_104) n k

section whole

variable (x0 : Vec F S16x128x256 .f32) (x1 : Vec F S144x128 .f32) (x2 x3 : Vec F S72x256 .f32) (x4 x5 : Vec F S1x256 .f32)
  (x6 x7 : Vec F S128x256 .f32) (x8 : Vec F S256x256 .f32) (x9 : Vec F S128x512 .f32) (x10 : Vec F S128x256 .f32)

/-- The first stage of the block, real part. -/
def reB : FVec F S16x128x256 .f32 := stackZ fun k => zRe x1 x2 x3 x4 x5 (rowVec x0 k)

/-- The first stage of the block, imaginary part. -/
def imB : FVec F S16x128x256 .f32 := stackZ fun k => zIm x1 x2 x3 x4 x5 (rowVec x0 k)

/-- The last bin of each of the block's rows. -/
def nB : FVec F S16x1x1 .f32 := lastBin fun k => sumRow x1 (rowVec x0 k)

/-- The bins of the block, real part. -/
def wRe : FVec F S16x128x128 .f32 := k0_pay169 x8 (reB x0 x1 x2 x3 x4 x5) (imB x0 x1 x2 x3 x4 x5)

/-- The bins of the block, imaginary part. -/
def wIm : FVec F S16x128x128 .f32 := k0_pay170 x8 (reB x0 x1 x2 x3 x4 x5) (imB x0 x1 x2 x3 x4 x5)

/-- The squared magnitudes of the block. -/
def powB : FVec F S16x128x128 .f32 := power (nB x0 x1) (wRe x0 x1 x2 x3 x4 x5 x8) (wIm x0 x1 x2 x3 x4 x5 x8)

/-- The bins kept of the block. -/
def keepB : IVec S16x128x128 1 := kept (powB x0 x1 x2 x3 x4 x5 x8)

/-- The last stage of the block. -/
def hB : FVec F S16x256x256 .f32 :=
  lastStage x6 x7 x9 (wRe x0 x1 x2 x3 x4 x5 x8) (wIm x0 x1 x2 x3 x4 x5 x8) (keepB x0 x1 x2 x3 x4 x5 x8)

/-- The alternating term of the block. -/
def aB : FVec F S16x1x256 .f32 := altTerm (nB x0 x1) (keepB x0 x1 x2 x3 x4 x5 x8)

/-- The season of one row of the block. -/
def seaB (k : Fin 16) : FVec F S128x256 .f32 :=
  season x10 (hRow (hB x0 x1 x2 x3 x4 x5 x6 x7 x8 x9) k) (nRow (aB x0 x1 x2 x3 x4 x5 x8) k)

end whole

omit [FloatOps F] in
theorem hRow_0 (h : FVec F S16x256x256 .f32) :
    shapeCast S256x256 (extractStridedSlice S1x256x256 ![0, 0, 0] h slices_S16x256x256_o0_0_0_S1x256x256) shapeCasts_S1x256x256_S256x256
      = hRow h 0 := by
  funext j
  pointwise [hRow]

omit [FloatOps F] in
theorem nRow_0 (h : FVec F S16x1x256 .f32) :
    shapeCast S1x256 (extractStridedSlice S1x1x256 ![0, 0, 0] h slices_S16x1x256_o0_0_0_S1x1x256) shapeCasts_S1x1x256_S1x256
      = nRow h 0 := by
  funext j
  pointwise [nRow]

omit [FloatOps F] in
theorem hRow_1 (h : FVec F S16x256x256 .f32) :
    shapeCast S256x256 (extractStridedSlice S1x256x256 ![1, 0, 0] h slices_S16x256x256_o1_0_0_S1x256x256) shapeCasts_S1x256x256_S256x256
      = hRow h 1 := by
  funext j
  pointwise [hRow]

omit [FloatOps F] in
theorem nRow_1 (h : FVec F S16x1x256 .f32) :
    shapeCast S1x256 (extractStridedSlice S1x1x256 ![1, 0, 0] h slices_S16x1x256_o1_0_0_S1x1x256) shapeCasts_S1x1x256_S1x256
      = nRow h 1 := by
  funext j
  pointwise [nRow]

omit [FloatOps F] in
theorem hRow_2 (h : FVec F S16x256x256 .f32) :
    shapeCast S256x256 (extractStridedSlice S1x256x256 ![2, 0, 0] h slices_S16x256x256_o2_0_0_S1x256x256) shapeCasts_S1x256x256_S256x256
      = hRow h 2 := by
  funext j
  pointwise [hRow]

omit [FloatOps F] in
theorem nRow_2 (h : FVec F S16x1x256 .f32) :
    shapeCast S1x256 (extractStridedSlice S1x1x256 ![2, 0, 0] h slices_S16x1x256_o2_0_0_S1x1x256) shapeCasts_S1x1x256_S1x256
      = nRow h 2 := by
  funext j
  pointwise [nRow]

omit [FloatOps F] in
theorem hRow_3 (h : FVec F S16x256x256 .f32) :
    shapeCast S256x256 (extractStridedSlice S1x256x256 ![3, 0, 0] h slices_S16x256x256_o3_0_0_S1x256x256) shapeCasts_S1x256x256_S256x256
      = hRow h 3 := by
  funext j
  pointwise [hRow]

omit [FloatOps F] in
theorem nRow_3 (h : FVec F S16x1x256 .f32) :
    shapeCast S1x256 (extractStridedSlice S1x1x256 ![3, 0, 0] h slices_S16x1x256_o3_0_0_S1x1x256) shapeCasts_S1x1x256_S1x256
      = nRow h 3 := by
  funext j
  pointwise [nRow]

omit [FloatOps F] in
theorem hRow_4 (h : FVec F S16x256x256 .f32) :
    shapeCast S256x256 (extractStridedSlice S1x256x256 ![4, 0, 0] h slices_S16x256x256_o4_0_0_S1x256x256) shapeCasts_S1x256x256_S256x256
      = hRow h 4 := by
  funext j
  pointwise [hRow]

omit [FloatOps F] in
theorem nRow_4 (h : FVec F S16x1x256 .f32) :
    shapeCast S1x256 (extractStridedSlice S1x1x256 ![4, 0, 0] h slices_S16x1x256_o4_0_0_S1x1x256) shapeCasts_S1x1x256_S1x256
      = nRow h 4 := by
  funext j
  pointwise [nRow]

omit [FloatOps F] in
theorem hRow_5 (h : FVec F S16x256x256 .f32) :
    shapeCast S256x256 (extractStridedSlice S1x256x256 ![5, 0, 0] h slices_S16x256x256_o5_0_0_S1x256x256) shapeCasts_S1x256x256_S256x256
      = hRow h 5 := by
  funext j
  pointwise [hRow]

omit [FloatOps F] in
theorem nRow_5 (h : FVec F S16x1x256 .f32) :
    shapeCast S1x256 (extractStridedSlice S1x1x256 ![5, 0, 0] h slices_S16x1x256_o5_0_0_S1x1x256) shapeCasts_S1x1x256_S1x256
      = nRow h 5 := by
  funext j
  pointwise [nRow]

omit [FloatOps F] in
theorem hRow_6 (h : FVec F S16x256x256 .f32) :
    shapeCast S256x256 (extractStridedSlice S1x256x256 ![6, 0, 0] h slices_S16x256x256_o6_0_0_S1x256x256) shapeCasts_S1x256x256_S256x256
      = hRow h 6 := by
  funext j
  pointwise [hRow]

omit [FloatOps F] in
theorem nRow_6 (h : FVec F S16x1x256 .f32) :
    shapeCast S1x256 (extractStridedSlice S1x1x256 ![6, 0, 0] h slices_S16x1x256_o6_0_0_S1x1x256) shapeCasts_S1x1x256_S1x256
      = nRow h 6 := by
  funext j
  pointwise [nRow]

omit [FloatOps F] in
theorem hRow_7 (h : FVec F S16x256x256 .f32) :
    shapeCast S256x256 (extractStridedSlice S1x256x256 ![7, 0, 0] h slices_S16x256x256_o7_0_0_S1x256x256) shapeCasts_S1x256x256_S256x256
      = hRow h 7 := by
  funext j
  pointwise [hRow]

omit [FloatOps F] in
theorem nRow_7 (h : FVec F S16x1x256 .f32) :
    shapeCast S1x256 (extractStridedSlice S1x1x256 ![7, 0, 0] h slices_S16x1x256_o7_0_0_S1x1x256) shapeCasts_S1x1x256_S1x256
      = nRow h 7 := by
  funext j
  pointwise [nRow]

omit [FloatOps F] in
theorem hRow_8 (h : FVec F S16x256x256 .f32) :
    shapeCast S256x256 (extractStridedSlice S1x256x256 ![8, 0, 0] h slices_S16x256x256_o8_0_0_S1x256x256) shapeCasts_S1x256x256_S256x256
      = hRow h 8 := by
  funext j
  pointwise [hRow]

omit [FloatOps F] in
theorem nRow_8 (h : FVec F S16x1x256 .f32) :
    shapeCast S1x256 (extractStridedSlice S1x1x256 ![8, 0, 0] h slices_S16x1x256_o8_0_0_S1x1x256) shapeCasts_S1x1x256_S1x256
      = nRow h 8 := by
  funext j
  pointwise [nRow]

omit [FloatOps F] in
theorem hRow_9 (h : FVec F S16x256x256 .f32) :
    shapeCast S256x256 (extractStridedSlice S1x256x256 ![9, 0, 0] h slices_S16x256x256_o9_0_0_S1x256x256) shapeCasts_S1x256x256_S256x256
      = hRow h 9 := by
  funext j
  pointwise [hRow]

omit [FloatOps F] in
theorem nRow_9 (h : FVec F S16x1x256 .f32) :
    shapeCast S1x256 (extractStridedSlice S1x1x256 ![9, 0, 0] h slices_S16x1x256_o9_0_0_S1x1x256) shapeCasts_S1x1x256_S1x256
      = nRow h 9 := by
  funext j
  pointwise [nRow]

omit [FloatOps F] in
theorem hRow_10 (h : FVec F S16x256x256 .f32) :
    shapeCast S256x256 (extractStridedSlice S1x256x256 ![10, 0, 0] h slices_S16x256x256_o10_0_0_S1x256x256) shapeCasts_S1x256x256_S256x256
      = hRow h 10 := by
  funext j
  pointwise [hRow]

omit [FloatOps F] in
theorem nRow_10 (h : FVec F S16x1x256 .f32) :
    shapeCast S1x256 (extractStridedSlice S1x1x256 ![10, 0, 0] h slices_S16x1x256_o10_0_0_S1x1x256) shapeCasts_S1x1x256_S1x256
      = nRow h 10 := by
  funext j
  pointwise [nRow]

omit [FloatOps F] in
theorem hRow_11 (h : FVec F S16x256x256 .f32) :
    shapeCast S256x256 (extractStridedSlice S1x256x256 ![11, 0, 0] h slices_S16x256x256_o11_0_0_S1x256x256) shapeCasts_S1x256x256_S256x256
      = hRow h 11 := by
  funext j
  pointwise [hRow]

omit [FloatOps F] in
theorem nRow_11 (h : FVec F S16x1x256 .f32) :
    shapeCast S1x256 (extractStridedSlice S1x1x256 ![11, 0, 0] h slices_S16x1x256_o11_0_0_S1x1x256) shapeCasts_S1x1x256_S1x256
      = nRow h 11 := by
  funext j
  pointwise [nRow]

omit [FloatOps F] in
theorem hRow_12 (h : FVec F S16x256x256 .f32) :
    shapeCast S256x256 (extractStridedSlice S1x256x256 ![12, 0, 0] h slices_S16x256x256_o12_0_0_S1x256x256) shapeCasts_S1x256x256_S256x256
      = hRow h 12 := by
  funext j
  pointwise [hRow]

omit [FloatOps F] in
theorem nRow_12 (h : FVec F S16x1x256 .f32) :
    shapeCast S1x256 (extractStridedSlice S1x1x256 ![12, 0, 0] h slices_S16x1x256_o12_0_0_S1x1x256) shapeCasts_S1x1x256_S1x256
      = nRow h 12 := by
  funext j
  pointwise [nRow]

omit [FloatOps F] in
theorem hRow_13 (h : FVec F S16x256x256 .f32) :
    shapeCast S256x256 (extractStridedSlice S1x256x256 ![13, 0, 0] h slices_S16x256x256_o13_0_0_S1x256x256) shapeCasts_S1x256x256_S256x256
      = hRow h 13 := by
  funext j
  pointwise [hRow]

omit [FloatOps F] in
theorem nRow_13 (h : FVec F S16x1x256 .f32) :
    shapeCast S1x256 (extractStridedSlice S1x1x256 ![13, 0, 0] h slices_S16x1x256_o13_0_0_S1x1x256) shapeCasts_S1x1x256_S1x256
      = nRow h 13 := by
  funext j
  pointwise [nRow]

omit [FloatOps F] in
theorem hRow_14 (h : FVec F S16x256x256 .f32) :
    shapeCast S256x256 (extractStridedSlice S1x256x256 ![14, 0, 0] h slices_S16x256x256_o14_0_0_S1x256x256) shapeCasts_S1x256x256_S256x256
      = hRow h 14 := by
  funext j
  pointwise [hRow]

omit [FloatOps F] in
theorem nRow_14 (h : FVec F S16x1x256 .f32) :
    shapeCast S1x256 (extractStridedSlice S1x1x256 ![14, 0, 0] h slices_S16x1x256_o14_0_0_S1x1x256) shapeCasts_S1x1x256_S1x256
      = nRow h 14 := by
  funext j
  pointwise [nRow]

omit [FloatOps F] in
theorem hRow_15 (h : FVec F S16x256x256 .f32) :
    shapeCast S256x256 (extractStridedSlice S1x256x256 ![15, 0, 0] h slices_S16x256x256_o15_0_0_S1x256x256) shapeCasts_S1x256x256_S256x256
      = hRow h 15 := by
  funext j
  pointwise [hRow]

omit [FloatOps F] in
theorem nRow_15 (h : FVec F S16x1x256 .f32) :
    shapeCast S1x256 (extractStridedSlice S1x1x256 ![15, 0, 0] h slices_S16x1x256_o15_0_0_S1x1x256) shapeCasts_S1x1x256_S1x256
      = nRow h 15 := by
  funext j
  pointwise [nRow]

variable (c : Dev nD) (i : grid0.Coords)
  (arg1 : Memref sig .tc .vmem S16x128x256 .f32) (harg1 : arg1.IsWhole)
  (arg2 : Memref sig .tc .vmem S144x128 .f32) (harg2 : arg2.IsWhole)
  (arg3 : Memref sig .tc .vmem S72x256 .f32) (harg3 : arg3.IsWhole)
  (arg4 : Memref sig .tc .vmem S72x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S128x256 .f32) (harg7 : arg7.IsWhole)
  (arg8 : Memref sig .tc .vmem S128x256 .f32) (harg8 : arg8.IsWhole)
  (arg9 : Memref sig .tc .vmem S256x256 .f32) (harg9 : arg9.IsWhole)
  (arg10 : Memref sig .tc .vmem S128x512 .f32) (harg10 : arg10.IsWhole)
  (arg11 : Memref sig .tc .vmem S128x256 .f32) (harg11 : arg11.IsWhole)
  (arg12 : Memref sig .tc .vmem S16x128x256 .f32) (harg12 : arg12.IsWhole)
  (arg13 : Memref sig .tc .vmem S16x128x256 .f32) (harg13 : arg13.IsWhole)
  (arg14 : Memref sig .tc .vmem S16x128x128 .f32) (harg14 : arg14.IsWhole)
  (x0 : Vec F S16x128x256 .f32)
  (x1 : Vec F S144x128 .f32)
  (x2 : Vec F S72x256 .f32)
  (x3 : Vec F S72x256 .f32)
  (x4 : Vec F S1x256 .f32)
  (x5 : Vec F S1x256 .f32)
  (x6 : Vec F S128x256 .f32)
  (x7 : Vec F S128x256 .f32)
  (x8 : Vec F S256x256 .f32)
  (x9 : Vec F S128x512 .f32)
  (x10 : Vec F S128x256 .f32)

theorem e_reB : (kernelRun0_A.sl.r_107 (F := F) c arg1 harg1 arg2 harg2 arg3 harg3 arg4 harg4 arg5 harg5 arg6 harg6 x0 x1 x2 x3 x4 x5) = reB x0 x1 x2 x3 x4 x5 := by
  have h : (kernelRun0_A.sl.r_107 (F := F) c arg1 harg1 arg2 harg2 arg3 harg3 arg4 harg4 arg5 harg5 arg6 harg6 x0 x1 x2 x3 x4 x5) = k0_pay164 (kernelRun0_A.sl.r_13 (F := F) c arg1 harg1 arg2 harg2 arg3 harg3 arg4 harg4 arg5 harg5 arg6 harg6 x0 x1 x2 x3 x4 x5) (kernelRun0_A.sl.r_22 (F := F) c arg1 harg1 arg2 harg2 arg3 harg3 arg4 harg4 arg5 harg5 arg6 harg6 x0 x1 x2 x3 x4 x5) (kernelRun0_A.sl.r_25 (F := F) c arg1 harg1 arg2 harg2 arg3 harg3 arg4 harg4 arg5 harg5 arg6 harg6 x0 x1 x2 x3 x4 x5) (kernelRun0_A.sl.r_28 (F := F) c arg1 harg1 arg2 harg2 arg3 harg3 arg4 harg4 arg5 harg5 arg6 harg6 x0 x1 x2 x3 x4 x5) (kernelRun0_A.sl.r_34 (F := F) c arg1 harg1 arg2 harg2 arg3 harg3 arg4 harg4 arg5 harg5 arg6 harg6 x0 x1 x2 x3 x4 x5) (kernelRun0_A.sl.r_44 (F := F) c arg1 harg1 arg2 harg2 arg3 harg3 arg4 harg4 arg5 harg5 arg6 harg6 x0 x1 x2 x3 x4 x5) (kernelRun0_A.sl.r_52 (F := F) c arg1 harg1 arg2 harg2 arg3 harg3 arg4 harg4 arg5 harg5 arg6 harg6 x0 x1 x2 x3 x4 x5) (kernelRun0_A.sl.r_55 (F := F) c arg1 harg1 arg2 harg2 arg3 harg3 arg4 harg4 arg5 harg5 arg6 harg6 x0 x1 x2 x3 x4 x5) (kernelRun0_A.sl.r_60 (F := F) c arg1 harg1 arg2 harg2 arg3 harg3 arg4 harg4 arg5 harg5 arg6 harg6 x0 x1 x2 x3 x4 x5) (kernelRun0_A.sl.r_69 (F := F) c arg1 harg1 arg2 harg2 arg3 harg3 arg4 harg4 arg5 harg5 arg6 harg6 x0 x1 x2 x3 x4 x5) (kernelRun0_A.sl.r_77 (F := F) c arg1 harg1 arg2 harg2 arg3 harg3 arg4 harg4 arg5 harg5 arg6 harg6 x0 x1 x2 x3 x4 x5) (kernelRun0_A.sl.r_80 (F := F) c arg1 harg1 arg2 harg2 arg3 harg3 arg4 harg4 arg5 harg5 arg6 harg6 x0 x1 x2 x3 x4 x5) (kernelRun0_A.sl.r_84 (F := F) c arg1 harg1 arg2 harg2 arg3 harg3 arg4 harg4 arg5 harg5 arg6 harg6 x0 x1 x2 x3 x4 x5) (kernelRun0_A.sl.r_91 (F := F) c arg1 harg1 arg2 harg2 arg3 harg3 arg4 harg4 arg5 harg5 arg6 harg6 x0 x1 x2 x3 x4 x5) (kernelRun0_A.sl.r_100 (F := F) c arg1 harg1 arg2 harg2 arg3 harg3 arg4 harg4 arg5 harg5 arg6 harg6 x0 x1 x2 x3 x4 x5) (kernelRun0_A.sl.r_103 (F := F) c arg1 harg1 arg2 harg2 arg3 harg3 arg4 harg4 arg5 harg5 arg6 harg6 x0 x1 x2 x3 x4 x5) := rfl
  rw [h, e_re_0 c arg1 harg1 arg2 harg2 arg3 harg3 arg4 harg4 arg5 harg5 arg6 harg6 x0 x1 x2 x3 x4 x5, e_re_1 c arg1 harg1 arg2 harg2 arg3 harg3 arg4 harg4 arg5 harg5 arg6 harg6 x0 x1 x2 x3 x4 x5, e_re_2 c arg1 harg1 arg2 harg2 arg3 harg3 arg4 harg4 arg5 harg5 arg6 harg6 x0 x1 x2 x3 x4 x5, e_re_3 c arg1 harg1 arg2 harg2 arg3 harg3 arg4 harg4 arg5 harg5 arg6 harg6 x0 x1 x2 x3 x4 x5, e_re_4 c arg1 harg1 arg2 harg2 arg3 harg3 arg4 harg4 arg5 harg5 arg6 harg6 x0 x1 x2 x3 x4 x5, e_re_5 c arg1 harg1 arg2 harg2 arg3 harg3 arg4 harg4 arg5 harg5 arg6 harg6 x0 x1 x2 x3 x4 x5, e_re_6 c arg1 harg1 arg2 harg2 arg3 harg3 arg4 harg4 arg5 harg5 arg6 harg6 x0 x1 x2 x3 x4 x5, e_re_7 c arg1 harg1 arg2 harg2 arg3 harg3 arg4 harg4 arg5 harg5 arg6 harg6 x0 x1 x2 x3 x4 x5, e_re_8 c arg1 harg1 arg2 harg2 arg3 harg3 arg4 harg4 arg5 harg5 arg6 harg6 x0 x1 x2 x3 x4 x5, e_re_9 c arg1 harg1 arg2 harg2 arg3 harg3 arg4 harg4 arg5 harg5 arg6 harg6 x0 x1 x2 x3 x4 x5, e_re_10 c arg1 harg1 arg2 harg2 arg3 harg3 arg4 harg4 arg5 harg5 arg6 harg6 x0 x1 x2 x3 x4 x5, e_re_11 c arg1 harg1 arg2 harg2 arg3 harg3 arg4 harg4 arg5 harg5 arg6 harg6 x0 x1 x2 x3 x4 x5, e_re_12 c arg1 harg1 arg2 harg2 arg3 harg3 arg4 harg4 arg5 harg5 arg6 harg6 x0 x1 x2 x3 x4 x5, e_re_13 c arg1 harg1 arg2 harg2 arg3 harg3 arg4 harg4 arg5 harg5 arg6 harg6 x0 x1 x2 x3 x4 x5, e_re_14 c arg1 harg1 arg2 harg2 arg3 harg3 arg4 harg4 arg5 harg5 arg6 harg6 x0 x1 x2 x3 x4 x5, e_re_15 c arg1 harg1 arg2 harg2 arg3 harg3 arg4 harg4 arg5 harg5 arg6 harg6 x0 x1 x2 x3 x4 x5]
  rfl

theorem e_imB : (kernelRun0_A.sl.r_108 (F := F) c arg1 harg1 arg2 harg2 arg3 harg3 arg4 harg4 arg5 harg5 arg6 harg6 x0 x1 x2 x3 x4 x5) = imB x0 x1 x2 x3 x4 x5 := by
  unfold kernelRun0_A.sl.r_108
  rw [e_im_0 c arg1 harg1 arg2 harg2 arg3 harg3 arg4 harg4 arg5 harg5 arg6 harg6 x0 x1 x2 x3 x4 x5, e_im_1 c arg1 harg1 arg2 harg2 arg3 harg3 arg4 harg4 arg5 harg5 arg6 harg6 x0 x1 x2 x3 x4 x5, e_im_2 c arg1 harg1 arg2 harg2 arg3 harg3 arg4 harg4 arg5 harg5 arg6 harg6 x0 x1 x2 x3 x4 x5, e_im_3 c arg1 harg1 arg2 harg2 arg3 harg3 arg4 harg4 arg5 harg5 arg6 harg6 x0 x1 x2 x3 x4 x5, e_im_4 c arg1 harg1 arg2 harg2 arg3 harg3 arg4 harg4 arg5 harg5 arg6 harg6 x0 x1 x2 x3 x4 x5, e_im_5 c arg1 harg1 arg2 harg2 arg3 harg3 arg4 harg4 arg5 harg5 arg6 harg6 x0 x1 x2 x3 x4 x5, e_im_6 c arg1 harg1 arg2 harg2 arg3 harg3 arg4 harg4 arg5 harg5 arg6 harg6 x0 x1 x2 x3 x4 x5, e_im_7 c arg1 harg1 arg2 harg2 arg3 harg3 arg4 harg4 arg5 harg5 arg6 harg6 x0 x1 x2 x3 x4 x5, e_im_8 c arg1 harg1 arg2 harg2 arg3 harg3 arg4 harg4 arg5 harg5 arg6 harg6 x0 x1 x2 x3 x4 x5, e_im_9 c arg1 harg1 arg2 harg2 arg3 harg3 arg4 harg4 arg5 harg5 arg6 harg6 x0 x1 x2 x3 x4 x5, e_im_10 c arg1 harg1 arg2 harg2 arg3 harg3 arg4 harg4 arg5 harg5 arg6 harg6 x0 x1 x2 x3 x4 x5, e_im_11 c arg1 harg1 arg2 harg2 arg3 harg3 arg4 harg4 arg5 harg5 arg6 harg6 x0 x1 x2 x3 x4 x5, e_im_12 c arg1 harg1 arg2 harg2 arg3 harg3 arg4 harg4 arg5 harg5 arg6 harg6 x0 x1 x2 x3 x4 x5, e_im_13 c arg1 harg1 arg2 harg2 arg3 harg3 arg4 harg4 arg5 harg5 arg6 harg6 x0 x1 x2 x3 x4 x5, e_im_14 c arg1 harg1 arg2 harg2 arg3 harg3 arg4 harg4 arg5 harg5 arg6 harg6 x0 x1 x2 x3 x4 x5, e_im_15 c arg1 harg1 arg2 harg2 arg3 harg3 arg4 harg4 arg5 harg5 arg6 harg6 x0 x1 x2 x3 x4 x5]
  rfl

theorem e_nB : (kernelRun0_A.sl.r_110 (F := F) c arg1 harg1 arg2 harg2 x0 x1) = nB x0 x1 := by
  unfold kernelRun0_A.sl.r_110
  rw [e_g0_0 c arg1 harg1 arg2 harg2 x0 x1, e_g0_1 c arg1 harg1 arg2 harg2 x0 x1, e_g0_2 c arg1 harg1 arg2 harg2 x0 x1, e_g0_3 c arg1 harg1 arg2 harg2 x0 x1, e_g0_4 c arg1 harg1 arg2 harg2 x0 x1, e_g0_5 c arg1 harg1 arg2 harg2 x0 x1, e_g0_6 c arg1 harg1 arg2 harg2 x0 x1, e_g0_7 c arg1 harg1 arg2 harg2 x0 x1, e_g0_8 c arg1 harg1 arg2 harg2 x0 x1, e_g0_9 c arg1 harg1 arg2 harg2 x0 x1, e_g0_10 c arg1 harg1 arg2 harg2 x0 x1, e_g0_11 c arg1 harg1 arg2 harg2 x0 x1, e_g0_12 c arg1 harg1 arg2 harg2 x0 x1, e_g0_13 c arg1 harg1 arg2 harg2 x0 x1, e_g0_14 c arg1 harg1 arg2 harg2 x0 x1, e_g0_15 c arg1 harg1 arg2 harg2 x0 x1]
  rfl

theorem e_wRe : (kernelRun0_A.sl.r_111 (F := F) c arg1 harg1 arg2 harg2 arg3 harg3 arg4 harg4 arg5 harg5 arg6 harg6 arg9 harg9 x0 x1 x2 x3 x4 x5 x8) = wRe x0 x1 x2 x3 x4 x5 x8 := by
  unfold kernelRun0_A.sl.r_111
  rw [e_reB, e_imB, e_r_7]
  rfl

theorem e_wIm : (kernelRun0_A.sl.r_112 (F := F) c arg1 harg1 arg2 harg2 arg3 harg3 arg4 harg4 arg5 harg5 arg6 harg6 arg9 harg9 x0 x1 x2 x3 x4 x5 x8) = wIm x0 x1 x2 x3 x4 x5 x8 := by
  unfold kernelRun0_A.sl.r_112
  rw [e_reB, e_imB, e_r_7]
  rfl

theorem e_powB : (kernelRun0_A.sl.r_113 (F := F) c arg1 harg1 arg2 harg2 arg3 harg3 arg4 harg4 arg5 harg5 arg6 harg6 arg9 harg9 x0 x1 x2 x3 x4 x5 x8) = powB x0 x1 x2 x3 x4 x5 x8 := by
  have h : (kernelRun0_A.sl.r_113 (F := F) c arg1 harg1 arg2 harg2 arg3 harg3 arg4 harg4 arg5 harg5 arg6 harg6 arg9 harg9 x0 x1 x2 x3 x4 x5 x8) = power (kernelRun0_A.sl.r_110 (F := F) c arg1 harg1 arg2 harg2 x0 x1) (kernelRun0_A.sl.r_111 (F := F) c arg1 harg1 arg2 harg2 arg3 harg3 arg4 harg4 arg5 harg5 arg6 harg6 arg9 harg9 x0 x1 x2 x3 x4 x5 x8) (kernelRun0_A.sl.r_112 (F := F) c arg1 harg1 arg2 harg2 arg3 harg3 arg4 harg4 arg5 harg5 arg6 harg6 arg9 harg9 x0 x1 x2 x3 x4 x5 x8) := rfl
  rw [h, e_nB, e_wRe, e_wIm]
  rfl

theorem e_scratch : (kernelRun0_A.sl.v769 (F := F) c arg1 harg1 arg2 harg2 arg3 harg3 arg4 harg4 arg5 harg5 arg6 harg6 arg9 harg9 arg14 x0 x1 x2 x3 x4 x5 x8) = powB x0 x1 x2 x3 x4 x5 x8 := by
  unfold kernelRun0_A.sl.v769 kernelRun0_A.sl.HS0_1 k0_pay173
  rw [e_powB]
  exact (View.readCov_full (s := S16x128x128) _ _ _ _ _).trans (shapeCast_self _ _)

theorem e_keepB : (kernelRun0_A.sl.r_123 (F := F) c arg1 harg1 arg2 harg2 arg3 harg3 arg4 harg4 arg5 harg5 arg6 harg6 arg9 harg9 arg14 x0 x1 x2 x3 x4 x5 x8) = keepB x0 x1 x2 x3 x4 x5 x8 := by
  have h : (kernelRun0_A.sl.r_123 (F := F) c arg1 harg1 arg2 harg2 arg3 harg3 arg4 harg4 arg5 harg5 arg6 harg6 arg9 harg9 arg14 x0 x1 x2 x3 x4 x5 x8) = kept (kernelRun0_A.sl.v769 (F := F) c arg1 harg1 arg2 harg2 arg3 harg3 arg4 harg4 arg5 harg5 arg6 harg6 arg9 harg9 arg14 x0 x1 x2 x3 x4 x5 x8) := rfl
  rw [h, e_scratch]
  rfl

theorem e_hB : (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) = hB x0 x1 x2 x3 x4 x5 x6 x7 x8 x9 := by
  unfold kernelRun0_A.sl.r_124
  rw [e_wRe, e_wIm, e_keepB, e_r_5, e_r_6, e_r_8]
  rfl

theorem e_aB : (kernelRun0_A.sl.r_125 (F := F) c arg1 harg1 arg2 harg2 arg3 harg3 arg4 harg4 arg5 harg5 arg6 harg6 arg9 harg9 arg14 x0 x1 x2 x3 x4 x5 x8) = aB x0 x1 x2 x3 x4 x5 x8 := by
  unfold kernelRun0_A.sl.r_125
  rw [e_nB, e_keepB]
  rfl

/-- The row placed in a block of one row, read back. -/
theorem cast_row (v : FVec F S128x256 .f32) (j : S1x128x256.Idx) :
    shapeCast S1x128x256 v shapeCasts_S128x256_S1x128x256 j = v (ix2 (j 1) (j 2)) := by
  pointwise

/-- The season written of the block. -/
def outSea (y : S16x128x256.Idx) : F .f32 := seaB x0 x1 x2 x3 x4 x5 x6 x7 x8 x9 x10 (y 0) (ix2 (y 1) (y 2))

/-- The trend written of the block. -/
def outTrend (y : S16x128x256.Idx) : F .f32 := FloatOps.subf (x0 y) (outSea x0 x1 x2 x3 x4 x5 x6 x7 x8 x9 x10 y)

theorem emb_row (k : ℕ) (hk : k < 16) (h) (j : S1x128x256.Idx) :
    (Rect.unit (s := S16x128x256) ![k, 0, 0] S1x128x256.size h).emb j = ix3 (⟨k, hk⟩ : Fin 16) (j 1) (j 2) := by
  have hj : (j 0).val = 0 := by have : (j 0).val < 1 := (j 0).isLt; omega
  refine funext fun a => Fin.ext ?_
  fin_cases a
  · show k + 1 * (j 0).val = k
    omega
  · show 0 + 1 * (j 1).val = (j 1).val
    omega
  · show 0 + 1 * (j 2).val = (j 2).val
    omega

theorem sea_15 (j : S1x128x256.Idx) : k0_pay243 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![15, 0, 0] S1x128x256.size inb_S16x128x256_S1x128x256_15_0_0).emb j) := by
  have h : k0_pay243 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![15, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o15_0_0_S1x256x256) shapeCasts_S1x256x256_S256x256) (shapeCast S1x256 (extractStridedSlice S1x1x256 ![15, 0, 0] (kernelRun0_A.sl.r_125 (F := F) c arg1 harg1 arg2 harg2 arg3 harg3 arg4 harg4 arg5 harg5 arg6 harg6 arg9 harg9 arg14 x0 x1 x2 x3 x4 x5 x8) slices_S16x1x256_o15_0_0_S1x1x256) shapeCasts_S1x1x256_S1x256)) shapeCasts_S128x256_S1x128x256 := rfl
  rw [h, cast_row, hRow_15, nRow_15, e_hB, e_aB, e_r_9, emb_row 15 (by decide)]
  rfl

theorem trend_15 (j : S1x128x256.Idx) : k0_pay1 (kernelRun0_A.sl.r_134 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) j
      = outTrend x0 x1 x2 x3 x4 x5 x6 x7 x8 x9 x10 ((Rect.unit (s := S16x128x256) ![15, 0, 0] S1x128x256.size inb_S16x128x256_S1x128x256_15_0_0).emb j) := by
  have h : k0_pay1 (kernelRun0_A.sl.r_134 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) = shapeCast S1x128x256 (subf (shapeCast S128x256 (View.readAt (Elt F) arg1.view (Rect.unit (s := S16x128x256) ![15, 0, 0] S1x128x256.size inb_S16x128x256_S1x128x256_15_0_0).toLoadRect (harg1.unread x0)) shapeCasts_S1x128x256_S128x256) (season (kernelRun0_A.sl.r_9 (F := F) c arg11 harg11 x10) (shapeCast S256x256 (extractStridedSlice S1x256x256 ![15, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o15_0_0_S1x256x256) shapeCasts_S1x256x256_S256x256) (shapeCast S1x256 (extractStridedSlice S1x1x256 ![15, 0, 0] (kernelRun0_A.sl.r_125 (F := F) c arg1 harg1 arg2 harg2 arg3 harg3 arg4 harg4 arg5 harg5 arg6 harg6 arg9 harg9 arg14 x0 x1 x2 x3 x4 x5 x8) slices_S16x1x256_o15_0_0_S1x1x256) shapeCasts_S1x1x256_S1x256))) shapeCasts_S128x256_S1x128x256 := rfl
  rw [h, cast_row, hRow_15, nRow_15, e_hB, e_aB, e_r_9, emb_row 15 (by decide), read_row arg1 harg1 x0 15 (by decide)]
  refine congrArg₂ FloatOps.subf ?_ rfl
  pointwise [rowVec]

theorem sea_14 (j : S1x128x256.Idx) : k0_pay239 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![14, 0, 0] S1x128x256.size inb_S16x128x256_S1x128x256_14_0_0).emb j) := by
  have h : k0_pay239 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![14, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o14_0_0_S1x256x256) shapeCasts_S1x256x256_S256x256) (shapeCast S1x256 (extractStridedSlice S1x1x256 ![14, 0, 0] (kernelRun0_A.sl.r_125 (F := F) c arg1 harg1 arg2 harg2 arg3 harg3 arg4 harg4 arg5 harg5 arg6 harg6 arg9 harg9 arg14 x0 x1 x2 x3 x4 x5 x8) slices_S16x1x256_o14_0_0_S1x1x256) shapeCasts_S1x1x256_S1x256)) shapeCasts_S128x256_S1x128x256 := rfl
  rw [h, cast_row, hRow_14, nRow_14, e_hB, e_aB, e_r_9, emb_row 14 (by decide)]
  rfl

theorem trend_14 (j : S1x128x256.Idx) : k0_pay241 (kernelRun0_A.sl.r_133 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) j
      = outTrend x0 x1 x2 x3 x4 x5 x6 x7 x8 x9 x10 ((Rect.unit (s := S16x128x256) ![14, 0, 0] S1x128x256.size inb_S16x128x256_S1x128x256_14_0_0).emb j) := by
  have h : k0_pay241 (kernelRun0_A.sl.r_133 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) = shapeCast S1x128x256 (subf (shapeCast S128x256 (View.readAt (Elt F) arg1.view (Rect.unit (s := S16x128x256) ![14, 0, 0] S1x128x256.size inb_S16x128x256_S1x128x256_14_0_0).toLoadRect (harg1.unread x0)) shapeCasts_S1x128x256_S128x256) (season (kernelRun0_A.sl.r_9 (F := F) c arg11 harg11 x10) (shapeCast S256x256 (extractStridedSlice S1x256x256 ![14, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o14_0_0_S1x256x256) shapeCasts_S1x256x256_S256x256) (shapeCast S1x256 (extractStridedSlice S1x1x256 ![14, 0, 0] (kernelRun0_A.sl.r_125 (F := F) c arg1 harg1 arg2 harg2 arg3 harg3 arg4 harg4 arg5 harg5 arg6 harg6 arg9 harg9 arg14 x0 x1 x2 x3 x4 x5 x8) slices_S16x1x256_o14_0_0_S1x1x256) shapeCasts_S1x1x256_S1x256))) shapeCasts_S128x256_S1x128x256 := rfl
  rw [h, cast_row, hRow_14, nRow_14, e_hB, e_aB, e_r_9, emb_row 14 (by decide), read_row arg1 harg1 x0 14 (by decide)]
  refine congrArg₂ FloatOps.subf ?_ rfl
  pointwise [rowVec]

theorem sea_13 (j : S1x128x256.Idx) : k0_pay236 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) k0_pay234 j
      = outSea x0 x1 x2 x3 x4 x5 x6 x7 x8 x9 x10 ((Rect.unit (s := S16x128x256) ![13, 0, 0] S1x128x256.size inb_S16x128x256_S1x128x256_13_0_0).emb j) := by
  have h : k0_pay236 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) k0_pay234 = shapeCast S1x128x256 (season (kernelRun0_A.sl.r_9 (F := F) c arg11 harg11 x10) (shapeCast S256x256 (extractStridedSlice S1x256x256 ![13, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o13_0_0_S1x256x256) shapeCasts_S1x256x256_S256x256) (shapeCast S1x256 (extractStridedSlice S1x1x256 ![13, 0, 0] (kernelRun0_A.sl.r_125 (F := F) c arg1 harg1 arg2 harg2 arg3 harg3 arg4 harg4 arg5 harg5 arg6 harg6 arg9 harg9 arg14 x0 x1 x2 x3 x4 x5 x8) slices_S16x1x256_o13_0_0_S1x1x256) shapeCasts_S1x1x256_S1x256)) shapeCasts_S128x256_S1x128x256 := rfl
  rw [h, cast_row, hRow_13, nRow_13, e_hB, e_aB, e_r_9, emb_row 13 (by decide)]
  rfl

theorem trend_13 (j : S1x128x256.Idx) : k0_pay237 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) k0_pay234 (View.readAt (Elt F) arg1.view (Rect.unit (s := S16x128x256) ![13, 0, 0] S1x128x256.size inb_S16x128x256_S1x128x256_13_0_0).toLoadRect (harg1.unread x0)) j
      = outTrend x0 x1 x2 x3 x4 x5 x6 x7 x8 x9 x10 ((Rect.unit (s := S16x128x256) ![13, 0, 0] S1x128x256.size inb_S16x128x256_S1x128x256_13_0_0).emb j) := by
  have h : k0_pay237 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) k0_pay234 (View.readAt (Elt F) arg1.view (Rect.unit (s := S16x128x256) ![13, 0, 0] S1x128x256.size inb_S16x128x256_S1x128x256_13_0_0).toLoadRect (harg1.unread x0)) = shapeCast S1x128x256 (subf (shapeCast S128x256 (View.readAt (Elt F) arg1.view (Rect.unit (s := S16x128x256) ![13, 0, 0] S1x128x256.size inb_S16x128x256_S1x128x256_13_0_0).toLoadRect (harg1.unread x0)) shapeCasts_S1x128x256_S128x256) (season (kernelRun0_A.sl.r_9 (F := F) c arg11 harg11 x10) (shapeCast S256x256 (extractStridedSlice S1x256x256 ![13, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o13_0_0_S1x256x256) shapeCasts_S1x256x256_S256x256) (shapeCast S1x256 (extractStridedSlice S1x1x256 ![13, 0, 0] (kernelRun0_A.sl.r_125 (F := F) c arg1 harg1 arg2 harg2 arg3 harg3 arg4 harg4 arg5 harg5 arg6 harg6 arg9 harg9 arg14 x0 x1 x2 x3 x4 x5 x8) slices_S16x1x256_o13_0_0_S1x1x256) shapeCasts_S1x1x256_S1x256))) shapeCasts_S128x256_S1x128x256 := rfl
  rw [h, cast_row, hRow_13, nRow_13, e_hB, e_aB, e_r_9, emb_row 13 (by decide), read_row arg1 harg1 x0 13 (by decide)]
  refine congrArg₂ FloatOps.subf ?_ rfl
  pointwise [rowVec]

theorem sea_12 (j : S1x128x256.Idx) : k0_pay232 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![12, 0, 0] S1x128x256.size inb_S16x128x256_S1x128x256_12_0_0).emb j) := by
  have h : k0_pay232 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![12, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o12_0_0_S1x256x256) shapeCasts_S1x256x256_S256x256) (shapeCast S1x256 (extractStridedSlice S1x1x256 ![12, 0, 0] (kernelRun0_A.sl.r_125 (F := F) c arg1 harg1 arg2 harg2 arg3 harg3 arg4 harg4 arg5 harg5 arg6 harg6 arg9 harg9 arg14 x0 x1 x2 x3 x4 x5 x8) slices_S16x1x256_o12_0_0_S1x1x256) shapeCasts_S1x1x256_S1x256)) shapeCasts_S128x256_S1x128x256 := rfl
  rw [h, cast_row, hRow_12, nRow_12, e_hB, e_aB, e_r_9, emb_row 12 (by decide)]
  rfl

theorem trend_12 (j : S1x128x256.Idx) : k0_pay233 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![12, 0, 0] S1x128x256.size inb_S16x128x256_S1x128x256_12_0_0).toLoadRect (harg1.unread x0)) j
      = outTrend x0 x1 x2 x3 x4 x5 x6 x7 x8 x9 x10 ((Rect.unit (s := S16x128x256) ![12, 0, 0] S1x128x256.size inb_S16x128x256_S1x128x256_12_0_0).emb j) := by
  have h : k0_pay233 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![12, 0, 0] S1x128x256.size inb_S16x128x256_S1x128x256_12_0_0).toLoadRect (harg1.unread x0)) = shapeCast S1x128x256 (subf (shapeCast S128x256 (View.readAt (Elt F) arg1.view (Rect.unit (s := S16x128x256) ![12, 0, 0] S1x128x256.size inb_S16x128x256_S1x128x256_12_0_0).toLoadRect (harg1.unread x0)) shapeCasts_S1x128x256_S128x256) (season (kernelRun0_A.sl.r_9 (F := F) c arg11 harg11 x10) (shapeCast S256x256 (extractStridedSlice S1x256x256 ![12, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o12_0_0_S1x256x256) shapeCasts_S1x256x256_S256x256) (shapeCast S1x256 (extractStridedSlice S1x1x256 ![12, 0, 0] (kernelRun0_A.sl.r_125 (F := F) c arg1 harg1 arg2 harg2 arg3 harg3 arg4 harg4 arg5 harg5 arg6 harg6 arg9 harg9 arg14 x0 x1 x2 x3 x4 x5 x8) slices_S16x1x256_o12_0_0_S1x1x256) shapeCasts_S1x1x256_S1x256))) shapeCasts_S128x256_S1x128x256 := rfl
  rw [h, cast_row, hRow_12, nRow_12, e_hB, e_aB, e_r_9, emb_row 12 (by decide), read_row arg1 harg1 x0 12 (by decide)]
  refine congrArg₂ FloatOps.subf ?_ rfl
  pointwise [rowVec]

theorem sea_11 (j : S1x128x256.Idx) : k0_pay229 (kernelRun0_A.sl.r_125 (F := F) c arg1 harg1 arg2 harg2 arg3 harg3 arg4 harg4 arg5 harg5 arg6 harg6 arg9 harg9 arg14 x0 x1 x2 x3 x4 x5 x8) (kernelRun0_A.sl.r_132 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) j
      = outSea x0 x1 x2 x3 x4 x5 x6 x7 x8 x9 x10 ((Rect.unit (s := S16x128x256) ![11, 0, 0] S1x128x256.size inb_S16x128x256_S1x128x256_11_0_0).emb j) := by
  have h : k0_pay229 (kernelRun0_A.sl.r_125 (F := F) c arg1 harg1 arg2 harg2 arg3 harg3 arg4 harg4 arg5 harg5 arg6 harg6 arg9 harg9 arg14 x0 x1 x2 x3 x4 x5 x8) (kernelRun0_A.sl.r_132 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) = shapeCast S1x128x256 (season (kernelRun0_A.sl.r_9 (F := F) c arg11 harg11 x10) (shapeCast S256x256 (extractStridedSlice S1x256x256 ![11, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o11_0_0_S1x256x256) shapeCasts_S1x256x256_S256x256) (shapeCast S1x256 (extractStridedSlice S1x1x256 ![11, 0, 0] (kernelRun0_A.sl.r_125 (F := F) c arg1 harg1 arg2 harg2 arg3 harg3 arg4 harg4 arg5 harg5 arg6 harg6 arg9 harg9 arg14 x0 x1 x2 x3 x4 x5 x8) slices_S16x1x256_o11_0_0_S1x1x256) shapeCasts_S1x1x256_S1x256)) shapeCasts_S128x256_S1x128x256 := rfl
  rw [h, cast_row, hRow_11, nRow_11, e_hB, e_aB, e_r_9, emb_row 11 (by decide)]
  rfl

theorem trend_11 (j : S1x128x256.Idx) : k0_pay230 (kernelRun0_A.sl.r_125 (F := F) c arg1 harg1 arg2 harg2 arg3 harg3 arg4 harg4 arg5 harg5 arg6 harg6 arg9 harg9 arg14 x0 x1 x2 x3 x4 x5 x8) (kernelRun0_A.sl.r_132 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![11, 0, 0] S1x128x256.size inb_S16x128x256_S1x128x256_11_0_0).toLoadRect (harg1.unread x0)) j
      = outTrend x0 x1 x2 x3 x4 x5 x6 x7 x8 x9 x10 ((Rect.unit (s := S16x128x256) ![11, 0, 0] S1x128x256.size inb_S16x128x256_S1x128x256_11_0_0).emb j) := by
  have h : k0_pay230 (kernelRun0_A.sl.r_125 (F := F) c arg1 harg1 arg2 harg2 arg3 harg3 arg4 harg4 arg5 harg5 arg6 harg6 arg9 harg9 arg14 x0 x1 x2 x3 x4 x5 x8) (kernelRun0_A.sl.r_132 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![11, 0, 0] S1x128x256.size inb_S16x128x256_S1x128x256_11_0_0).toLoadRect (harg1.unread x0)) = shapeCast S1x128x256 (subf (shapeCast S128x256 (View.readAt (Elt F) arg1.view (Rect.unit (s := S16x128x256) ![11, 0, 0] S1x128x256.size inb_S16x128x256_S1x128x256_11_0_0).toLoadRect (harg1.unread x0)) shapeCasts_S1x128x256_S128x256) (season (kernelRun0_A.sl.r_9 (F := F) c arg11 harg11 x10) (shapeCast S256x256 (extractStridedSlice S1x256x256 ![11, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o11_0_0_S1x256x256) shapeCasts_S1x256x256_S256x256) (shapeCast S1x256 (extractStridedSlice S1x1x256 ![11, 0, 0] (kernelRun0_A.sl.r_125 (F := F) c arg1 harg1 arg2 harg2 arg3 harg3 arg4 harg4 arg5 harg5 arg6 harg6 arg9 harg9 arg14 x0 x1 x2 x3 x4 x5 x8) slices_S16x1x256_o11_0_0_S1x1x256) shapeCasts_S1x1x256_S1x256))) shapeCasts_S128x256_S1x128x256 := rfl
  rw [h, cast_row, hRow_11, nRow_11, e_hB, e_aB, e_r_9, emb_row 11 (by decide), read_row arg1 harg1 x0 11 (by decide)]
  refine congrArg₂ FloatOps.subf ?_ rfl
  pointwise [rowVec]

theorem sea_10 (j : S1x128x256.Idx) : k0_pay225 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![10, 0, 0] S1x128x256.size inb_S16x128x256_S1x128x256_10_0_0).emb j) := by
  have h : k0_pay225 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![10, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o10_0_0_S1x256x256) shapeCasts_S1x256x256_S256x256) (shapeCast S1x256 (extractStridedSlice S1x1x256 ![10, 0, 0] (kernelRun0_A.sl.r_125 (F := F) c arg1 harg1 arg2 harg2 arg3 harg3 arg4 harg4 arg5 harg5 arg6 harg6 arg9 harg9 arg14 x0 x1 x2 x3 x4 x5 x8) slices_S16x1x256_o10_0_0_S1x1x256) shapeCasts_S1x1x256_S1x256)) shapeCasts_S128x256_S1x128x256 := rfl
  rw [h, cast_row, hRow_10, nRow_10, e_hB, e_aB, e_r_9, emb_row 10 (by decide)]
  rfl

theorem trend_10 (j : S1x128x256.Idx) : k0_pay226 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![10, 0, 0] S1x128x256.size inb_S16x128x256_S1x128x256_10_0_0).toLoadRect (harg1.unread x0)) j
      = outTrend x0 x1 x2 x3 x4 x5 x6 x7 x8 x9 x10 ((Rect.unit (s := S16x128x256) ![10, 0, 0] S1x128x256.size inb_S16x128x256_S1x128x256_10_0_0).emb j) := by
  have h : k0_pay226 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![10, 0, 0] S1x128x256.size inb_S16x128x256_S1x128x256_10_0_0).toLoadRect (harg1.unread x0)) = shapeCast S1x128x256 (subf (shapeCast S128x256 (View.readAt (Elt F) arg1.view (Rect.unit (s := S16x128x256) ![10, 0, 0] S1x128x256.size inb_S16x128x256_S1x128x256_10_0_0).toLoadRect (harg1.unread x0)) shapeCasts_S1x128x256_S128x256) (season (kernelRun0_A.sl.r_9 (F := F) c arg11 harg11 x10) (shapeCast S256x256 (extractStridedSlice S1x256x256 ![10, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o10_0_0_S1x256x256) shapeCasts_S1x256x256_S256x256) (shapeCast S1x256 (extractStridedSlice S1x1x256 ![10, 0, 0] (kernelRun0_A.sl.r_125 (F := F) c arg1 harg1 arg2 harg2 arg3 harg3 arg4 harg4 arg5 harg5 arg6 harg6 arg9 harg9 arg14 x0 x1 x2 x3 x4 x5 x8) slices_S16x1x256_o10_0_0_S1x1x256) shapeCasts_S1x1x256_S1x256))) shapeCasts_S128x256_S1x128x256 := rfl
  rw [h, cast_row, hRow_10, nRow_10, e_hB, e_aB, e_r_9, emb_row 10 (by decide), read_row arg1 harg1 x0 10 (by decide)]
  refine congrArg₂ FloatOps.subf ?_ rfl
  pointwise [rowVec]

theorem sea_9 (j : S1x128x256.Idx) : k0_pay222 (kernelRun0_A.sl.r_131 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) j
      = outSea x0 x1 x2 x3 x4 x5 x6 x7 x8 x9 x10 ((Rect.unit (s := S16x128x256) ![9, 0, 0] S1x128x256.size inb_S16x128x256_S1x128x256_9_0_0).emb j) := by
  have h : k0_pay222 (kernelRun0_A.sl.r_131 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) = shapeCast S1x128x256 (season (kernelRun0_A.sl.r_9 (F := F) c arg11 harg11 x10) (shapeCast S256x256 (extractStridedSlice S1x256x256 ![9, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o9_0_0_S1x256x256) shapeCasts_S1x256x256_S256x256) (shapeCast S1x256 (extractStridedSlice S1x1x256 ![9, 0, 0] (kernelRun0_A.sl.r_125 (F := F) c arg1 harg1 arg2 harg2 arg3 harg3 arg4 harg4 arg5 harg5 arg6 harg6 arg9 harg9 arg14 x0 x1 x2 x3 x4 x5 x8) slices_S16x1x256_o9_0_0_S1x1x256) shapeCasts_S1x1x256_S1x256)) shapeCasts_S128x256_S1x128x256 := rfl
  rw [h, cast_row, hRow_9, nRow_9, e_hB, e_aB, e_r_9, emb_row 9 (by decide)]
  rfl

theorem trend_9 (j : S1x128x256.Idx) : k0_pay223 (kernelRun0_A.sl.r_131 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![9, 0, 0] S1x128x256.size inb_S16x128x256_S1x128x256_9_0_0).toLoadRect (harg1.unread x0)) j
      = outTrend x0 x1 x2 x3 x4 x5 x6 x7 x8 x9 x10 ((Rect.unit (s := S16x128x256) ![9, 0, 0] S1x128x256.size inb_S16x128x256_S1x128x256_9_0_0).emb j) := by
  have h : k0_pay223 (kernelRun0_A.sl.r_131 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![9, 0, 0] S1x128x256.size inb_S16x128x256_S1x128x256_9_0_0).toLoadRect (harg1.unread x0)) = shapeCast S1x128x256 (subf (shapeCast S128x256 (View.readAt (Elt F) arg1.view (Rect.unit (s := S16x128x256) ![9, 0, 0] S1x128x256.size inb_S16x128x256_S1x128x256_9_0_0).toLoadRect (harg1.unread x0)) shapeCasts_S1x128x256_S128x256) (season (kernelRun0_A.sl.r_9 (F := F) c arg11 harg11 x10) (shapeCast S256x256 (extractStridedSlice S1x256x256 ![9, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o9_0_0_S1x256x256) shapeCasts_S1x256x256_S256x256) (shapeCast S1x256 (extractStridedSlice S1x1x256 ![9, 0, 0] (kernelRun0_A.sl.r_125 (F := F) c arg1 harg1 arg2 harg2 arg3 harg3 arg4 harg4 arg5 harg5 arg6 harg6 arg9 harg9 arg14 x0 x1 x2 x3 x4 x5 x8) slices_S16x1x256_o9_0_0_S1x1x256) shapeCasts_S1x1x256_S1x256))) shapeCasts_S128x256_S1x128x256 := rfl
  rw [h, cast_row, hRow_9, nRow_9, e_hB, e_aB, e_r_9, emb_row 9 (by decide), read_row arg1 harg1 x0 9 (by decide)]
  refine congrArg₂ FloatOps.subf ?_ rfl
  pointwise [rowVec]

theorem sea_8 (j : S1x128x256.Idx) : k0_pay219 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![8, 0, 0] S1x128x256.size inb_S16x128x256_S1x128x256_8_0_0).emb j) := by
  have h : k0_pay219 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![8, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o8_0_0_S1x256x256) shapeCasts_S1x256x256_S256x256) (shapeCast S1x256 (extractStridedSlice S1x1x256 ![8, 0, 0] (kernelRun0_A.sl.r_125 (F := F) c arg1 harg1 arg2 harg2 arg3 harg3 arg4 harg4 arg5 harg5 arg6 harg6 arg9 harg9 arg14 x0 x1 x2 x3 x4 x5 x8) slices_S16x1x256_o8_0_0_S1x1x256) shapeCasts_S1x1x256_S1x256)) shapeCasts_S128x256_S1x128x256 := rfl
  rw [h, cast_row, hRow_8, nRow_8, e_hB, e_aB, e_r_9, emb_row 8 (by decide)]
  rfl

theorem trend_8 (j : S1x128x256.Idx) : k0_pay220 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![8, 0, 0] S1x128x256.size inb_S16x128x256_S1x128x256_8_0_0).toLoadRect (harg1.unread x0)) j
      = outTrend x0 x1 x2 x3 x4 x5 x6 x7 x8 x9 x10 ((Rect.unit (s := S16x128x256) ![8, 0, 0] S1x128x256.size inb_S16x128x256_S1x128x256_8_0_0).emb j) := by
  have h : k0_pay220 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![8, 0, 0] S1x128x256.size inb_S16x128x256_S1x128x256_8_0_0).toLoadRect (harg1.unread x0)) = shapeCast S1x128x256 (subf (shapeCast S128x256 (View.readAt (Elt F) arg1.view (Rect.unit (s := S16x128x256) ![8, 0, 0] S1x128x256.size inb_S16x128x256_S1x128x256_8_0_0).toLoadRect (harg1.unread x0)) shapeCasts_S1x128x256_S128x256) (season (kernelRun0_A.sl.r_9 (F := F) c arg11 harg11 x10) (shapeCast S256x256 (extractStridedSlice S1x256x256 ![8, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o8_0_0_S1x256x256) shapeCasts_S1x256x256_S256x256) (shapeCast S1x256 (extractStridedSlice S1x1x256 ![8, 0, 0] (kernelRun0_A.sl.r_125 (F := F) c arg1 harg1 arg2 harg2 arg3 harg3 arg4 harg4 arg5 harg5 arg6 harg6 arg9 harg9 arg14 x0 x1 x2 x3 x4 x5 x8) slices_S16x1x256_o8_0_0_S1x1x256) shapeCasts_S1x1x256_S1x256))) shapeCasts_S128x256_S1x128x256 := rfl
  rw [h, cast_row, hRow_8, nRow_8, e_hB, e_aB, e_r_9, emb_row 8 (by decide), read_row arg1 harg1 x0 8 (by decide)]
  refine congrArg₂ FloatOps.subf ?_ rfl
  pointwise [rowVec]

theorem sea_7 (j : S1x128x256.Idx) : k0_pay216 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![7, 0, 0] S1x128x256.size inb_S16x128x256_S1x128x256_7_0_0).emb j) := by
  have h : k0_pay216 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![7, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o7_0_0_S1x256x256) shapeCasts_S1x256x256_S256x256) (shapeCast S1x256 (extractStridedSlice S1x1x256 ![7, 0, 0] (kernelRun0_A.sl.r_125 (F := F) c arg1 harg1 arg2 harg2 arg3 harg3 arg4 harg4 arg5 harg5 arg6 harg6 arg9 harg9 arg14 x0 x1 x2 x3 x4 x5 x8) slices_S16x1x256_o7_0_0_S1x1x256) shapeCasts_S1x1x256_S1x256)) shapeCasts_S128x256_S1x128x256 := rfl
  rw [h, cast_row, hRow_7, nRow_7, e_hB, e_aB, e_r_9, emb_row 7 (by decide)]
  rfl

theorem trend_7 (j : S1x128x256.Idx) : k0_pay217 (kernelRun0_A.sl.r_130 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![7, 0, 0] S1x128x256.size inb_S16x128x256_S1x128x256_7_0_0).toLoadRect (harg1.unread x0)) j
      = outTrend x0 x1 x2 x3 x4 x5 x6 x7 x8 x9 x10 ((Rect.unit (s := S16x128x256) ![7, 0, 0] S1x128x256.size inb_S16x128x256_S1x128x256_7_0_0).emb j) := by
  have h : k0_pay217 (kernelRun0_A.sl.r_130 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (View.readAt (Elt F) arg1.view (Rect.unit (s := S16x128x256) ![7, 0, 0] S1x128x256.size inb_S16x128x256_S1x128x256_7_0_0).toLoadRect (harg1.unread x0)) = shapeCast S1x128x256 (subf (shapeCast S128x256 (View.readAt (Elt F) arg1.view (Rect.unit (s := S16x128x256) ![7, 0, 0] S1x128x256.size inb_S16x128x256_S1x128x256_7_0_0).toLoadRect (harg1.unread x0)) shapeCasts_S1x128x256_S128x256) (season (kernelRun0_A.sl.r_9 (F := F) c arg11 harg11 x10) (shapeCast S256x256 (extractStridedSlice S1x256x256 ![7, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o7_0_0_S1x256x256) shapeCasts_S1x256x256_S256x256) (shapeCast S1x256 (extractStridedSlice S1x1x256 ![7, 0, 0] (kernelRun0_A.sl.r_125 (F := F) c arg1 harg1 arg2 harg2 arg3 harg3 arg4 harg4 arg5 harg5 arg6 harg6 arg9 harg9 arg14 x0 x1 x2 x3 x4 x5 x8) slices_S16x1x256_o7_0_0_S1x1x256) shapeCasts_S1x1x256_S1x256))) shapeCasts_S128x256_S1x128x256 := rfl
  rw [h, cast_row, hRow_7, nRow_7, e_hB, e_aB, e_r_9, emb_row 7 (by decide), read_row arg1 harg1 x0 7 (by decide)]
  refine congrArg₂ FloatOps.subf ?_ rfl
  pointwise [rowVec]

theorem sea_6 (j : S1x128x256.Idx) : k0_pay213 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![6, 0, 0] S1x128x256.size inb_S16x128x256_S1x128x256_6_0_0).emb j) := by
  have h : k0_pay213 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![6, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o6_0_0_S1x256x256) shapeCasts_S1x256x256_S256x256) (shapeCast S1x256 (extractStridedSlice S1x1x256 ![6, 0, 0] (kernelRun0_A.sl.r_125 (F := F) c arg1 harg1 arg2 harg2 arg3 harg3 arg4 harg4 arg5 harg5 arg6 harg6 arg9 harg9 arg14 x0 x1 x2 x3 x4 x5 x8) slices_S16x1x256_o6_0_0_S1x1x256) shapeCasts_S1x1x256_S1x256)) shapeCasts_S128x256_S1x128x256 := rfl
  rw [h, cast_row, hRow_6, nRow_6, e_hB, e_aB, e_r_9, emb_row 6 (by decide)]
  rfl

theorem trend_6 (j : S1x128x256.Idx) : k0_pay214 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![6, 0, 0] S1x128x256.size inb_S16x128x256_S1x128x256_6_0_0).toLoadRect (harg1.unread x0)) j
      = outTrend x0 x1 x2 x3 x4 x5 x6 x7 x8 x9 x10 ((Rect.unit (s := S16x128x256) ![6, 0, 0] S1x128x256.size inb_S16x128x256_S1x128x256_6_0_0).emb j) := by
  have h : k0_pay214 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![6, 0, 0] S1x128x256.size inb_S16x128x256_S1x128x256_6_0_0).toLoadRect (harg1.unread x0)) = shapeCast S1x128x256 (subf (shapeCast S128x256 (View.readAt (Elt F) arg1.view (Rect.unit (s := S16x128x256) ![6, 0, 0] S1x128x256.size inb_S16x128x256_S1x128x256_6_0_0).toLoadRect (harg1.unread x0)) shapeCasts_S1x128x256_S128x256) (season (kernelRun0_A.sl.r_9 (F := F) c arg11 harg11 x10) (shapeCast S256x256 (extractStridedSlice S1x256x256 ![6, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o6_0_0_S1x256x256) shapeCasts_S1x256x256_S256x256) (shapeCast S1x256 (extractStridedSlice S1x1x256 ![6, 0, 0] (kernelRun0_A.sl.r_125 (F := F) c arg1 harg1 arg2 harg2 arg3 harg3 arg4 harg4 arg5 harg5 arg6 harg6 arg9 harg9 arg14 x0 x1 x2 x3 x4 x5 x8) slices_S16x1x256_o6_0_0_S1x1x256) shapeCasts_S1x1x256_S1x256))) shapeCasts_S128x256_S1x128x256 := rfl
  rw [h, cast_row, hRow_6, nRow_6, e_hB, e_aB, e_r_9, emb_row 6 (by decide), read_row arg1 harg1 x0 6 (by decide)]
  refine congrArg₂ FloatOps.subf ?_ rfl
  pointwise [rowVec]

theorem sea_5 (j : S1x128x256.Idx) : k0_pay209 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![5, 0, 0] S1x128x256.size inb_S16x128x256_S1x128x256_5_0_0).emb j) := by
  have h : k0_pay209 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![5, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o5_0_0_S1x256x256) shapeCasts_S1x256x256_S256x256) (shapeCast S1x256 (extractStridedSlice S1x1x256 ![5, 0, 0] (kernelRun0_A.sl.r_125 (F := F) c arg1 harg1 arg2 harg2 arg3 harg3 arg4 harg4 arg5 harg5 arg6 harg6 arg9 harg9 arg14 x0 x1 x2 x3 x4 x5 x8) slices_S16x1x256_o5_0_0_S1x1x256) shapeCasts_S1x1x256_S1x256)) shapeCasts_S128x256_S1x128x256 := rfl
  rw [h, cast_row, hRow_5, nRow_5, e_hB, e_aB, e_r_9, emb_row 5 (by decide)]
  rfl

theorem trend_5 (j : S1x128x256.Idx) : k0_pay211 (kernelRun0_A.sl.r_129 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) j
      = outTrend x0 x1 x2 x3 x4 x5 x6 x7 x8 x9 x10 ((Rect.unit (s := S16x128x256) ![5, 0, 0] S1x128x256.size inb_S16x128x256_S1x128x256_5_0_0).emb j) := by
  have h : k0_pay211 (kernelRun0_A.sl.r_129 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) = shapeCast S1x128x256 (subf (shapeCast S128x256 (View.readAt (Elt F) arg1.view (Rect.unit (s := S16x128x256) ![5, 0, 0] S1x128x256.size inb_S16x128x256_S1x128x256_5_0_0).toLoadRect (harg1.unread x0)) shapeCasts_S1x128x256_S128x256) (season (kernelRun0_A.sl.r_9 (F := F) c arg11 harg11 x10) (shapeCast S256x256 (extractStridedSlice S1x256x256 ![5, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o5_0_0_S1x256x256) shapeCasts_S1x256x256_S256x256) (shapeCast S1x256 (extractStridedSlice S1x1x256 ![5, 0, 0] (kernelRun0_A.sl.r_125 (F := F) c arg1 harg1 arg2 harg2 arg3 harg3 arg4 harg4 arg5 harg5 arg6 harg6 arg9 harg9 arg14 x0 x1 x2 x3 x4 x5 x8) slices_S16x1x256_o5_0_0_S1x1x256) shapeCasts_S1x1x256_S1x256))) shapeCasts_S128x256_S1x128x256 := rfl
  rw [h, cast_row, hRow_5, nRow_5, e_hB, e_aB, e_r_9, emb_row 5 (by decide), read_row arg1 harg1 x0 5 (by decide)]
  refine congrArg₂ FloatOps.subf ?_ rfl
  pointwise [rowVec]

theorem sea_4 (j : S1x128x256.Idx) : k0_pay206 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![4, 0, 0] S1x128x256.size inb_S16x128x256_S1x128x256_4_0_0).emb j) := by
  have h : k0_pay206 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![4, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o4_0_0_S1x256x256) shapeCasts_S1x256x256_S256x256) (shapeCast S1x256 (extractStridedSlice S1x1x256 ![4, 0, 0] (kernelRun0_A.sl.r_125 (F := F) c arg1 harg1 arg2 harg2 arg3 harg3 arg4 harg4 arg5 harg5 arg6 harg6 arg9 harg9 arg14 x0 x1 x2 x3 x4 x5 x8) slices_S16x1x256_o4_0_0_S1x1x256) shapeCasts_S1x1x256_S1x256)) shapeCasts_S128x256_S1x128x256 := rfl
  rw [h, cast_row, hRow_4, nRow_4, e_hB, e_aB, e_r_9, emb_row 4 (by decide)]
  rfl

theorem trend_4 (j : S1x128x256.Idx) : k0_pay207 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![4, 0, 0] S1x128x256.size inb_S16x128x256_S1x128x256_4_0_0).toLoadRect (harg1.unread x0)) j
      = outTrend x0 x1 x2 x3 x4 x5 x6 x7 x8 x9 x10 ((Rect.unit (s := S16x128x256) ![4, 0, 0] S1x128x256.size inb_S16x128x256_S1x128x256_4_0_0).emb j) := by
  have h : k0_pay207 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![4, 0, 0] S1x128x256.size inb_S16x128x256_S1x128x256_4_0_0).toLoadRect (harg1.unread x0)) = shapeCast S1x128x256 (subf (shapeCast S128x256 (View.readAt (Elt F) arg1.view (Rect.unit (s := S16x128x256) ![4, 0, 0] S1x128x256.size inb_S16x128x256_S1x128x256_4_0_0).toLoadRect (harg1.unread x0)) shapeCasts_S1x128x256_S128x256) (season (kernelRun0_A.sl.r_9 (F := F) c arg11 harg11 x10) (shapeCast S256x256 (extractStridedSlice S1x256x256 ![4, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o4_0_0_S1x256x256) shapeCasts_S1x256x256_S256x256) (shapeCast S1x256 (extractStridedSlice S1x1x256 ![4, 0, 0] (kernelRun0_A.sl.r_125 (F := F) c arg1 harg1 arg2 harg2 arg3 harg3 arg4 harg4 arg5 harg5 arg6 harg6 arg9 harg9 arg14 x0 x1 x2 x3 x4 x5 x8) slices_S16x1x256_o4_0_0_S1x1x256) shapeCasts_S1x1x256_S1x256))) shapeCasts_S128x256_S1x128x256 := rfl
  rw [h, cast_row, hRow_4, nRow_4, e_hB, e_aB, e_r_9, emb_row 4 (by decide), read_row arg1 harg1 x0 4 (by decide)]
  refine congrArg₂ FloatOps.subf ?_ rfl
  pointwise [rowVec]

theorem sea_3 (j : S1x128x256.Idx) : k0_pay203 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![3, 0, 0] S1x128x256.size inb_S16x128x256_S1x128x256_3_0_0).emb j) := by
  have h : k0_pay203 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![3, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o3_0_0_S1x256x256) shapeCasts_S1x256x256_S256x256) (shapeCast S1x256 (extractStridedSlice S1x1x256 ![3, 0, 0] (kernelRun0_A.sl.r_125 (F := F) c arg1 harg1 arg2 harg2 arg3 harg3 arg4 harg4 arg5 harg5 arg6 harg6 arg9 harg9 arg14 x0 x1 x2 x3 x4 x5 x8) slices_S16x1x256_o3_0_0_S1x1x256) shapeCasts_S1x1x256_S1x256)) shapeCasts_S128x256_S1x128x256 := rfl
  rw [h, cast_row, hRow_3, nRow_3, e_hB, e_aB, e_r_9, emb_row 3 (by decide)]
  rfl

theorem trend_3 (j : S1x128x256.Idx) : k0_pay204 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![3, 0, 0] S1x128x256.size inb_S16x128x256_S1x128x256_3_0_0).toLoadRect (harg1.unread x0)) j
      = outTrend x0 x1 x2 x3 x4 x5 x6 x7 x8 x9 x10 ((Rect.unit (s := S16x128x256) ![3, 0, 0] S1x128x256.size inb_S16x128x256_S1x128x256_3_0_0).emb j) := by
  have h : k0_pay204 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![3, 0, 0] S1x128x256.size inb_S16x128x256_S1x128x256_3_0_0).toLoadRect (harg1.unread x0)) = shapeCast S1x128x256 (subf (shapeCast S128x256 (View.readAt (Elt F) arg1.view (Rect.unit (s := S16x128x256) ![3, 0, 0] S1x128x256.size inb_S16x128x256_S1x128x256_3_0_0).toLoadRect (harg1.unread x0)) shapeCasts_S1x128x256_S128x256) (season (kernelRun0_A.sl.r_9 (F := F) c arg11 harg11 x10) (shapeCast S256x256 (extractStridedSlice S1x256x256 ![3, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o3_0_0_S1x256x256) shapeCasts_S1x256x256_S256x256) (shapeCast S1x256 (extractStridedSlice S1x1x256 ![3, 0, 0] (kernelRun0_A.sl.r_125 (F := F) c arg1 harg1 arg2 harg2 arg3 harg3 arg4 harg4 arg5 harg5 arg6 harg6 arg9 harg9 arg14 x0 x1 x2 x3 x4 x5 x8) slices_S16x1x256_o3_0_0_S1x1x256) shapeCasts_S1x1x256_S1x256))) shapeCasts_S128x256_S1x128x256 := rfl
  rw [h, cast_row, hRow_3, nRow_3, e_hB, e_aB, e_r_9, emb_row 3 (by decide), read_row arg1 harg1 x0 3 (by decide)]
  refine congrArg₂ FloatOps.subf ?_ rfl
  pointwise [rowVec]

theorem sea_2 (j : S1x128x256.Idx) : k0_pay200 (kernelRun0_A.sl.r_9 (F := F) c arg11 harg11 x10) (kernelRun0_A.sl.r_125 (F := F) c arg1 harg1 arg2 harg2 arg3 harg3 arg4 harg4 arg5 harg5 arg6 harg6 arg9 harg9 arg14 x0 x1 x2 x3 x4 x5 x8) k0_pay197 (kernelRun0_A.sl.r_128 (F := F) c arg1 harg1 arg2 harg2 arg3 harg3 arg4 harg4 arg5 harg5 arg6 harg6 arg7 harg7 arg8 harg8 arg9 harg9 arg10 harg10 arg14 x0 x1 x2 x3 x4 x5 x6 x7 x8 x9) kernelRun0_A.sl.cst_175 j
      = outSea x0 x1 x2 x3 x4 x5 x6 x7 x8 x9 x10 ((Rect.unit (s := S16x128x256) ![2, 0, 0] S1x128x256.size inb_S16x128x256_S1x128x256_2_0_0).emb j) := by
  have h : k0_pay200 (kernelRun0_A.sl.r_9 (F := F) c arg11 harg11 x10) (kernelRun0_A.sl.r_125 (F := F) c arg1 harg1 arg2 harg2 arg3 harg3 arg4 harg4 arg5 harg5 arg6 harg6 arg9 harg9 arg14 x0 x1 x2 x3 x4 x5 x8) k0_pay197 (kernelRun0_A.sl.r_128 (F := F) c arg1 harg1 arg2 harg2 arg3 harg3 arg4 harg4 arg5 harg5 arg6 harg6 arg7 harg7 arg8 harg8 arg9 harg9 arg10 harg10 arg14 x0 x1 x2 x3 x4 x5 x6 x7 x8 x9) kernelRun0_A.sl.cst_175 = shapeCast S1x128x256 (season (kernelRun0_A.sl.r_9 (F := F) c arg11 harg11 x10) (shapeCast S256x256 (extractStridedSlice S1x256x256 ![2, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o2_0_0_S1x256x256) shapeCasts_S1x256x256_S256x256) (shapeCast S1x256 (extractStridedSlice S1x1x256 ![2, 0, 0] (kernelRun0_A.sl.r_125 (F := F) c arg1 harg1 arg2 harg2 arg3 harg3 arg4 harg4 arg5 harg5 arg6 harg6 arg9 harg9 arg14 x0 x1 x2 x3 x4 x5 x8) slices_S16x1x256_o2_0_0_S1x1x256) shapeCasts_S1x1x256_S1x256)) shapeCasts_S128x256_S1x128x256 := rfl
  rw [h, cast_row, hRow_2, nRow_2, e_hB, e_aB, e_r_9, emb_row 2 (by decide)]
  rfl

theorem trend_2 (j : S1x128x256.Idx) : k0_pay201 (kernelRun0_A.sl.r_9 (F := F) c arg11 harg11 x10) (kernelRun0_A.sl.r_125 (F := F) c arg1 harg1 arg2 harg2 arg3 harg3 arg4 harg4 arg5 harg5 arg6 harg6 arg9 harg9 arg14 x0 x1 x2 x3 x4 x5 x8) k0_pay197 (kernelRun0_A.sl.r_128 (F := F) c arg1 harg1 arg2 harg2 arg3 harg3 arg4 harg4 arg5 harg5 arg6 harg6 arg7 harg7 arg8 harg8 arg9 harg9 arg10 harg10 arg14 x0 x1 x2 x3 x4 x5 x6 x7 x8 x9) kernelRun0_A.sl.cst_175 (View.readAt (Elt F) arg1.view (Rect.unit (s := S16x128x256) ![2, 0, 0] S1x128x256.size inb_S16x128x256_S1x128x256_2_0_0).toLoadRect (harg1.unread x0)) j
      = outTrend x0 x1 x2 x3 x4 x5 x6 x7 x8 x9 x10 ((Rect.unit (s := S16x128x256) ![2, 0, 0] S1x128x256.size inb_S16x128x256_S1x128x256_2_0_0).emb j) := by
  have h : k0_pay201 (kernelRun0_A.sl.r_9 (F := F) c arg11 harg11 x10) (kernelRun0_A.sl.r_125 (F := F) c arg1 harg1 arg2 harg2 arg3 harg3 arg4 harg4 arg5 harg5 arg6 harg6 arg9 harg9 arg14 x0 x1 x2 x3 x4 x5 x8) k0_pay197 (kernelRun0_A.sl.r_128 (F := F) c arg1 harg1 arg2 harg2 arg3 harg3 arg4 harg4 arg5 harg5 arg6 harg6 arg7 harg7 arg8 harg8 arg9 harg9 arg10 harg10 arg14 x0 x1 x2 x3 x4 x5 x6 x7 x8 x9) kernelRun0_A.sl.cst_175 (View.readAt (Elt F) arg1.view (Rect.unit (s := S16x128x256) ![2, 0, 0] S1x128x256.size inb_S16x128x256_S1x128x256_2_0_0).toLoadRect (harg1.unread x0)) = shapeCast S1x128x256 (subf (shapeCast S128x256 (View.readAt (Elt F) arg1.view (Rect.unit (s := S16x128x256) ![2, 0, 0] S1x128x256.size inb_S16x128x256_S1x128x256_2_0_0).toLoadRect (harg1.unread x0)) shapeCasts_S1x128x256_S128x256) (season (kernelRun0_A.sl.r_9 (F := F) c arg11 harg11 x10) (shapeCast S256x256 (extractStridedSlice S1x256x256 ![2, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o2_0_0_S1x256x256) shapeCasts_S1x256x256_S256x256) (shapeCast S1x256 (extractStridedSlice S1x1x256 ![2, 0, 0] (kernelRun0_A.sl.r_125 (F := F) c arg1 harg1 arg2 harg2 arg3 harg3 arg4 harg4 arg5 harg5 arg6 harg6 arg9 harg9 arg14 x0 x1 x2 x3 x4 x5 x8) slices_S16x1x256_o2_0_0_S1x1x256) shapeCasts_S1x1x256_S1x256))) shapeCasts_S128x256_S1x128x256 := rfl
  rw [h, cast_row, hRow_2, nRow_2, e_hB, e_aB, e_r_9, emb_row 2 (by decide), read_row arg1 harg1 x0 2 (by decide)]
  refine congrArg₂ FloatOps.subf ?_ rfl
  pointwise [rowVec]

theorem sea_1 (j : S1x128x256.Idx) : k0_pay195 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![1, 0, 0] S1x128x256.size inb_S16x128x256_S1x128x256_1_0_0).emb j) := by
  have h : k0_pay195 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![1, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o1_0_0_S1x256x256) shapeCasts_S1x256x256_S256x256) (shapeCast S1x256 (extractStridedSlice S1x1x256 ![1, 0, 0] (kernelRun0_A.sl.r_125 (F := F) c arg1 harg1 arg2 harg2 arg3 harg3 arg4 harg4 arg5 harg5 arg6 harg6 arg9 harg9 arg14 x0 x1 x2 x3 x4 x5 x8) slices_S16x1x256_o1_0_0_S1x1x256) shapeCasts_S1x1x256_S1x256)) shapeCasts_S128x256_S1x128x256 := rfl
  rw [h, cast_row, hRow_1, nRow_1, e_hB, e_aB, e_r_9, emb_row 1 (by decide)]
  rfl

theorem trend_1 (j : S1x128x256.Idx) : k0_pay196 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![1, 0, 0] S1x128x256.size inb_S16x128x256_S1x128x256_1_0_0).toLoadRect (harg1.unread x0)) j
      = outTrend x0 x1 x2 x3 x4 x5 x6 x7 x8 x9 x10 ((Rect.unit (s := S16x128x256) ![1, 0, 0] S1x128x256.size inb_S16x128x256_S1x128x256_1_0_0).emb j) := by
  have h : k0_pay196 (kernelRun0_A.sl.r_9 (F := F) c arg11 harg11 x10) (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) (kernelRun0_A.sl.r_125 (F := F) c arg1 harg1 arg2 harg2 arg3 harg3 arg4 harg4 arg5 harg5 arg6 harg6 arg9 harg9 arg14 x0 x1 x2 x3 x4 x5 x8) (View.readAt (Elt F) arg1.view (Rect.unit (s := S16x128x256) ![1, 0, 0] S1x128x256.size inb_S16x128x256_S1x128x256_1_0_0).toLoadRect (harg1.unread x0)) = shapeCast S1x128x256 (subf (shapeCast S128x256 (View.readAt (Elt F) arg1.view (Rect.unit (s := S16x128x256) ![1, 0, 0] S1x128x256.size inb_S16x128x256_S1x128x256_1_0_0).toLoadRect (harg1.unread x0)) shapeCasts_S1x128x256_S128x256) (season (kernelRun0_A.sl.r_9 (F := F) c arg11 harg11 x10) (shapeCast S256x256 (extractStridedSlice S1x256x256 ![1, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o1_0_0_S1x256x256) shapeCasts_S1x256x256_S256x256) (shapeCast S1x256 (extractStridedSlice S1x1x256 ![1, 0, 0] (kernelRun0_A.sl.r_125 (F := F) c arg1 harg1 arg2 harg2 arg3 harg3 arg4 harg4 arg5 harg5 arg6 harg6 arg9 harg9 arg14 x0 x1 x2 x3 x4 x5 x8) slices_S16x1x256_o1_0_0_S1x1x256) shapeCasts_S1x1x256_S1x256))) shapeCasts_S128x256_S1x128x256 := rfl
  rw [h, cast_row, hRow_1, nRow_1, e_hB, e_aB, e_r_9, emb_row 1 (by decide), read_row arg1 harg1 x0 1 (by decide)]
  refine congrArg₂ FloatOps.subf ?_ rfl
  pointwise [rowVec]

theorem sea_0 (j : S1x128x256.Idx) : k0_pay192 (kernelRun0_A.sl.r_126 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (kernelRun0_A.sl.r_127 (F := F) c arg1 harg1 arg2 harg2 arg3 harg3 arg4 harg4 arg5 harg5 arg6 harg6 arg9 harg9 arg14 x0 x1 x2 x3 x4 x5 x8) j
      = outSea x0 x1 x2 x3 x4 x5 x6 x7 x8 x9 x10 ((Rect.unit (s := S16x128x256) ![0, 0, 0] S1x128x256.size inb_S16x128x256_S1x128x256_0_0_0).emb j) := by
  have h : k0_pay192 (kernelRun0_A.sl.r_126 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (kernelRun0_A.sl.r_127 (F := F) c arg1 harg1 arg2 harg2 arg3 harg3 arg4 harg4 arg5 harg5 arg6 harg6 arg9 harg9 arg14 x0 x1 x2 x3 x4 x5 x8) = shapeCast S1x128x256 (season (kernelRun0_A.sl.r_9 (F := F) c arg11 harg11 x10) (shapeCast S256x256 (extractStridedSlice S1x256x256 ![0, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o0_0_0_S1x256x256) shapeCasts_S1x256x256_S256x256) (shapeCast S1x256 (extractStridedSlice S1x1x256 ![0, 0, 0] (kernelRun0_A.sl.r_125 (F := F) c arg1 harg1 arg2 harg2 arg3 harg3 arg4 harg4 arg5 harg5 arg6 harg6 arg9 harg9 arg14 x0 x1 x2 x3 x4 x5 x8) slices_S16x1x256_o0_0_0_S1x1x256) shapeCasts_S1x1x256_S1x256)) shapeCasts_S128x256_S1x128x256 := rfl
  rw [h, cast_row, hRow_0, nRow_0, e_hB, e_aB, e_r_9, emb_row 0 (by decide)]
  rfl

theorem trend_0 (j : S1x128x256.Idx) : k0_pay193 (kernelRun0_A.sl.r_126 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (kernelRun0_A.sl.r_127 (F := F) c arg1 harg1 arg2 harg2 arg3 harg3 arg4 harg4 arg5 harg5 arg6 harg6 arg9 harg9 arg14 x0 x1 x2 x3 x4 x5 x8) (View.readAt (Elt F) arg1.view (Rect.unit (s := S16x128x256) ![0, 0, 0] S1x128x256.size inb_S16x128x256_S1x128x256_0_0_0).toLoadRect (harg1.unread x0)) j
      = outTrend x0 x1 x2 x3 x4 x5 x6 x7 x8 x9 x10 ((Rect.unit (s := S16x128x256) ![0, 0, 0] S1x128x256.size inb_S16x128x256_S1x128x256_0_0_0).emb j) := by
  have h : k0_pay193 (kernelRun0_A.sl.r_126 (F := F) c arg1 harg1 arg2 harg2 arg3 harg3 arg4 harg4 arg5 harg5 arg6 harg6 arg7 harg7 arg8 harg8 arg9 harg9 arg10 harg10 arg11 harg11 arg14 x0 x1 x2 x3 x4 x5 x6 x7 x8 x9 x10) (kernelRun0_A.sl.r_127 (F := F) c arg1 harg1 arg2 harg2 arg3 harg3 arg4 harg4 arg5 harg5 arg6 harg6 arg9 harg9 arg14 x0 x1 x2 x3 x4 x5 x8) (View.readAt (Elt F) arg1.view (Rect.unit (s := S16x128x256) ![0, 0, 0] S1x128x256.size inb_S16x128x256_S1x128x256_0_0_0).toLoadRect (harg1.unread x0)) = shapeCast S1x128x256 (subf (shapeCast S128x256 (View.readAt (Elt F) arg1.view (Rect.unit (s := S16x128x256) ![0, 0, 0] S1x128x256.size inb_S16x128x256_S1x128x256_0_0_0).toLoadRect (harg1.unread x0)) shapeCasts_S1x128x256_S128x256) (season (kernelRun0_A.sl.r_9 (F := F) c arg11 harg11 x10) (shapeCast S256x256 (extractStridedSlice S1x256x256 ![0, 0, 0] (kernelRun0_A.sl.r_124 (F := F) c arg1 harg1 arg2 harg2 arg3 harg3 arg4 harg4 arg5 harg5 arg6 harg6 arg7 harg7 arg8 harg8 arg9 harg9 arg10 harg10 arg14 x0 x1 x2 x3 x4 x5 x6 x7 x8 x9) slices_S16x256x256_o0_0_0_S1x256x256) shapeCasts_S1x256x256_S256x256) (shapeCast S1x256 (extractStridedSlice S1x1x256 ![0, 0, 0] (kernelRun0_A.sl.r_125 (F := F) c arg1 harg1 arg2 harg2 arg3 harg3 arg4 harg4 arg5 harg5 arg6 harg6 arg9 harg9 arg14 x0 x1 x2 x3 x4 x5 x8) slices_S16x1x256_o0_0_0_S1x1x256) shapeCasts_S1x1x256_S1x256))) shapeCasts_S128x256_S1x128x256 := rfl
  rw [h, cast_row, hRow_0, nRow_0, e_hB, e_aB, e_r_9, emb_row 0 (by decide), read_row arg1 harg1 x0 0 (by decide)]
  refine congrArg₂ FloatOps.subf ?_ rfl
  pointwise [rowVec]

theorem out_season : out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = outSea x0 x1 x2 x3 x4 x5 x6 x7 x8 x9 x10 := by
  funext y
  unfold out0_A_11
  refine View.read_writes_apply_of_pieces _ _ _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y)
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_⟩
  · exact fun j => sea_15 (j := j) ..
  · exact fun j => sea_14 (j := j) ..
  · exact fun j => sea_13 (j := j) ..
  · exact fun j => sea_12 (j := j) ..
  · exact fun j => sea_11 (j := j) ..
  · exact fun j => sea_10 (j := j) ..
  · exact fun j => sea_9 (j := j) ..
  · exact fun j => sea_8 (j := j) ..
  · exact fun j => sea_7 (j := j) ..
  · exact fun j => sea_6 (j := j) ..
  · exact fun j => sea_5 (j := j) ..
  · exact fun j => sea_4 (j := j) ..
  · exact fun j => sea_3 (j := j) ..
  · exact fun j => sea_2 (j := j) ..
  · exact fun j => sea_1 (j := j) ..
  · exact fun j => sea_0 (j := j) ..

theorem out_trend : out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = outTrend x0 x1 x2 x3 x4 x5 x6 x7 x8 x9 x10 := by
  funext y
  unfold out0_A_12
  refine View.read_writes_apply_of_pieces _ _ _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 y)
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_⟩
  · exact fun j => trend_15 (j := j) ..
  · exact fun j => trend_14 (j := j) ..
  · exact fun j => trend_13 (j := j) ..
  · exact fun j => trend_12 (j := j) ..
  · exact fun j => trend_11 (j := j) ..
  · exact fun j => trend_10 (j := j) ..
  · exact fun j => trend_9 (j := j) ..
  · exact fun j => trend_8 (j := j) ..
  · exact fun j => trend_7 (j := j) ..
  · exact fun j => trend_6 (j := j) ..
  · exact fun j => trend_5 (j := j) ..
  · exact fun j => trend_4 (j := j) ..
  · exact fun j => trend_3 (j := j) ..
  · exact fun j => trend_2 (j := j) ..
  · exact fun j => trend_1 (j := j) ..
  · exact fun j => trend_0 (j := j) ..

end Cert.KernelIdeal.Hand
-- ==== Proof.Dft.lean ====
/-
  The mathematics of the four-step transform of length 32768 = 128 · 256: the roots of unity, a bin from the two stages,
  the conjugate half of the first stage, the last bin, and the inverse as a sum over the bins.
-/
module

public import Idealize.ShloMosaic.Lib.Pointwise

@[expose] public section

noncomputable section

namespace Cert.Dft

open Complex Finset

/-- exp(−2πi m / p). -/
def e (p m : ℕ) : ℂ := Complex.exp (-((2 * Real.pi * m / p : ℝ) * I))

/-- cos(2π m / p). -/
def C (p m : ℕ) : ℝ := Real.cos (2 * Real.pi * m / p)

/-- sin(2π m / p). -/
def S (p m : ℕ) : ℝ := Real.sin (2 * Real.pi * m / p)

theorem e_eq (p m : ℕ) : e p m = ⟨C p m, -S p m⟩ := by
  unfold e C S
  rw [← neg_mul, ← Complex.ofReal_neg]
  apply Complex.ext
  · rw [Complex.exp_ofReal_mul_I_re, Real.cos_neg]
  · rw [Complex.exp_ofReal_mul_I_im, Real.sin_neg]

@[simp] theorem e_re (p m : ℕ) : (e p m).re = C p m := by rw [e_eq]
@[simp] theorem e_im (p m : ℕ) : (e p m).im = -S p m := by rw [e_eq]

theorem e_add (p m n : ℕ) : e p (m + n) = e p m * e p n := by
  unfold e
  rw [← Complex.exp_add]
  congr 1
  push_cast
  ring

theorem e_zero (p : ℕ) : e p 0 = 1 := by simp [e]

theorem e_period (p m : ℕ) (hp : p ≠ 0) : e p (p * m) = 1 := by
  unfold e
  have h : (p : ℂ) ≠ 0 := Nat.cast_ne_zero.2 hp
  rw [Complex.exp_eq_one_iff]
  refine ⟨-m, ?_⟩
  push_cast
  field_simp

theorem e_scale (q p m : ℕ) (hq : q ≠ 0) : e (q * p) (q * m) = e p m := by
  unfold e
  have h : (q : ℝ) ≠ 0 := Nat.cast_ne_zero.2 hq
  have h2 : (2 * Real.pi * ((q * m : ℕ) : ℝ) / ((q * p : ℕ) : ℝ) : ℝ) = 2 * Real.pi * m / p := by
    push_cast
    rw [show 2 * Real.pi * ((q : ℝ) * m) = q * (2 * Real.pi * m) by ring, mul_div_mul_left _ _ h]
  rw [h2]

theorem e_mod (p m : ℕ) (hp : p ≠ 0) : e p (m % p) = e p m := by
  conv_rhs => rw [← Nat.mod_add_div m p]
  rw [e_add, e_period p _ hp, mul_one]

theorem C_mod (p m : ℕ) (hp : p ≠ 0) : C p (m % p) = C p m := by
  rw [← e_re, e_mod p m hp, e_re]

theorem S_mod (p m : ℕ) (hp : p ≠ 0) : S p (m % p) = S p m := by
  have h := congrArg Complex.im (e_mod p m hp)
  rw [e_im, e_im] at h
  linarith

theorem conj_mul_self (p m : ℕ) : (starRingEnd ℂ) (e p m) * e p m = 1 := by
  have h : C p m * C p m + S p m * S p m = 1 := by
    have := Real.cos_sq_add_sin_sq (2 * Real.pi * m / p)
    unfold C S
    nlinarith
  apply Complex.ext
  · simp
    linarith
  · simp
    ring

theorem conj_eq {p m n q : ℕ} (h : m + n = q) : (starRingEnd ℂ) (e p m) * e p q = e p n := by
  rw [← h, e_add, ← mul_assoc, conj_mul_self, one_mul]

/-- Where row `i` of the first stage stands among the frequencies. -/
def pos (i : ℕ) : ℕ := if i ≤ 64 then i else 192 - i

theorem pos_lt {i : ℕ} (h : i < 128) : pos i < 128 := by unfold pos; split <;> omega

theorem pos_pos {i : ℕ} (h : i < 128) : pos (pos i) = i := by
  unfold pos
  by_cases h1 : i ≤ 64
  · rw [if_pos h1, if_pos h1]
  · rw [if_neg h1, if_neg (by omega)]
    omega

theorem pos_eq_zero {i : ℕ} (h : i < 128) : pos i = 0 ↔ i = 0 := by unfold pos; split <;> omega

section row

variable (y : Fin 128 → Fin 256 → ℝ)

/-- Bin `k` of the row. -/
def X (k : ℕ) : ℂ := ∑ a : Fin 128, ∑ b : Fin 256, (y a b : ℂ) * e 32768 (k * (256 * a + b))

/-- The lower frequencies of the first stage. -/
def low (i : ℕ) (b : Fin 256) : ℂ := (∑ a : Fin 128, (y a b : ℂ) * e 128 (i * a)) * e 32768 (i * b)

/-- The first stage at row `i`. -/
def Z (i : ℕ) (b : Fin 256) : ℂ := low y (pos i) b

theorem Z_low {i : ℕ} (h : i ≤ 64) (b : Fin 256) : Z y i b = low y i b := by
  unfold Z pos; rw [if_pos h]

theorem Z_high {j : ℕ} (h0 : 0 < j) (h : j < 64) (b : Fin 256) :
    Z y (64 + j) b = (starRingEnd ℂ) (low y j b) * e 256 b := by
  have hp : pos (64 + j) = 128 - j := by unfold pos; rw [if_neg (by omega)]; omega
  unfold Z low
  rw [hp, map_mul, map_sum]
  have h2 : (starRingEnd ℂ) (e 32768 (j * b)) * e 256 b = e 32768 ((128 - j) * b) := by
    rw [← e_scale 128 256 b (by norm_num)]
    refine conj_eq ?_
    rw [← Nat.add_mul]
    congr 1
    omega
  rw [mul_assoc, h2]
  congr 1
  refine Finset.sum_congr rfl fun a _ => ?_
  rw [map_mul, Complex.conj_ofReal]
  congr 1
  have h3 : (starRingEnd ℂ) (e 128 (j * a)) * e 128 (128 * a) = e 128 ((128 - j) * a) := by
    refine conj_eq ?_
    rw [← Nat.add_mul]
    congr 1
    omega
  rw [← h3, e_period 128 _ (by norm_num), mul_one]

/-- The root of a bin `t + 128 s` at `256 a + b`, from the two stages'. -/
theorem root (t s a b : ℕ) : e 32768 ((t + 128 * s) * (256 * a + b)) = e 128 (t * a) * e 32768 (t * b) * e 256 (b * s) := by
  have h : (t + 128 * s) * (256 * a + b) = 256 * (t * a) + t * b + 128 * (b * s) + 32768 * (s * a) := by ring
  rw [h, e_add, e_add, e_add, e_period 32768 _ (by norm_num), mul_one]
  congr 1
  · rw [← e_scale 256 128 (t * a) (by norm_num)]
  · rw [← e_scale 128 256 (b * s) (by norm_num)]

/-- The second stage gives the bins. -/
theorem second (i s : ℕ) : ∑ b : Fin 256, Z y i b * e 256 (b * s) = X y (pos i + 128 * s) := by
  unfold X Z low
  rw [Finset.sum_comm]
  refine Finset.sum_congr rfl fun b _ => ?_
  rw [Finset.sum_mul, Finset.sum_mul]
  refine Finset.sum_congr rfl fun a _ => ?_
  rw [root]
  ring

theorem e_half (b : ℕ) : e 32768 (16384 * b) = (((-1 : ℝ) ^ b : ℝ) : ℂ) := by
  have h1 : e 32768 16384 = -1 := by
    rw [e_eq]
    unfold C S
    rw [show (2 * Real.pi * ((16384 : ℕ) : ℝ) / ((32768 : ℕ) : ℝ)) = Real.pi by push_cast; ring, Real.cos_pi, Real.sin_pi]
    apply Complex.ext <;> simp
  induction b with
  | zero => simp [e_zero]
  | succ n ih =>
    rw [Nat.mul_add, mul_one, e_add, ih, h1]
    push_cast
    ring

/-- The last bin, from the column sums. -/
def last : ℝ := ∑ b : Fin 256, (∑ a : Fin 128, y a b) * (-1 : ℝ) ^ (b : ℕ)

theorem X_last : X y 16384 = (last y : ℂ) := by
  unfold X last
  rw [Finset.sum_comm]
  push_cast
  refine Finset.sum_congr rfl fun b _ => ?_
  rw [Finset.sum_mul]
  refine Finset.sum_congr rfl fun a _ => ?_
  rw [Nat.mul_add, e_add, show 16384 * (256 * (a : ℕ)) = 32768 * (128 * a) by ring, e_period 32768 _ (by norm_num), one_mul, e_half]
  push_cast
  ring

/-- The bin whose magnitude is read at `(i, s)`: the last bin stands in the zero bin's place. -/
def bin (i s : ℕ) : ℕ := if i = 0 ∧ s = 0 then 16384 else pos i + 128 * s

end row

/-- The rows of the first stage, permuted. -/
def posPerm : Equiv.Perm (Fin 128) where
  toFun i := ⟨pos i, pos_lt i.2⟩
  invFun i := ⟨pos i, pos_lt i.2⟩
  left_inv i := Fin.ext (pos_pos i.2)
  right_inv i := Fin.ext (pos_pos i.2)

/-- The bins below the last, as row and column of the second stage. -/
def binEquiv : Fin 128 × Fin 128 ≃ Fin 16384 :=
  ((Equiv.prodComm _ _).trans (Equiv.prodCongr (Equiv.refl _) posPerm)).trans (finProdFinEquiv (m := 128) (n := 128))

theorem binEquiv_val (i s : Fin 128) : (binEquiv (i, s)).val = pos i + 128 * s := rfl

theorem sum_bins {M : Type} [AddCommMonoid M] (f : ℕ → M) :
    ∑ i : Fin 128, ∑ s : Fin 128, f (pos i + 128 * s) = ∑ k : Fin 16384, f k := by
  rw [← Fintype.sum_prod_type' (fun (i : Fin 128) (s : Fin 128) => f (pos i + 128 * s))]
  rw [← binEquiv.sum_comp (fun k => f k.val)]
  rfl

/-- The last stage and the closing product: one sample from the bins. -/
theorem inverse (κ : ℕ → ℕ → ℝ) (V : ℕ → ℂ) (a : Fin 128) (b : Fin 256) :
    ∑ i : Fin 128, ((∑ s : Fin 128, (κ i s : ℂ) * V (pos i + 128 * s) * (starRingEnd ℂ) (e 256 (s * b))) * (starRingEnd ℂ) (e 32768 (pos i * b)))
        * (starRingEnd ℂ) (e 128 (a * pos i))
      = ∑ i : Fin 128, ∑ s : Fin 128, (κ i s : ℂ) * (V (pos i + 128 * s) * (starRingEnd ℂ) (e 32768 ((pos i + 128 * s) * (256 * a + b)))) := by
  refine Finset.sum_congr rfl fun i _ => ?_
  rw [Finset.sum_mul, Finset.sum_mul]
  refine Finset.sum_congr rfl fun s _ => ?_
  rw [root, map_mul, map_mul, Nat.mul_comm (a : ℕ), Nat.mul_comm (s : ℕ)]
  ring

end Cert.Dft
-- ==== Proof.Consts.lean ====
/-
  The constants and masks that the body and the reference write, at the ideal numbers, and sums of real values.
-/
module

public import Idealize.ShloMosaic.Lib.Pointwise
public import Idealize.ShloMosaic.Lib.IdealHost

@[expose] public section

noncomputable section

namespace Cert.Consts

open Idealize.ShloMosaic

theorem two : Ideal.ofBits .f32 0x40000000#32 = ((2 : ℝ) : EReal) := by
  simp [Ideal.ofBits, Ideal.ieee, -EReal.coe_mul]; norm_num

theorem five : Ideal.ofBits .f32 0x40A00000#32 = ((5 : ℝ) : EReal) := by
  simp [Ideal.ofBits, Ideal.ieee, -EReal.coe_mul]; norm_num

theorem negOne : Ideal.ofBits .f32 0xBF800000#32 = ((-1 : ℝ) : EReal) := by
  simp [Ideal.ofBits, Ideal.ieee, -EReal.coe_mul]; norm_num

theorem one : Ideal.ofBits .f32 0x3F800000#32 = ((1 : ℝ) : EReal) := by
  rw [Ideal.ofBits_one_f32]; rfl

theorem zero : Ideal.ofBits .f32 0x00000000#32 = ((0 : ℝ) : EReal) := by
  simp [Ideal.ofBits, Ideal.ieee]

theorem invN : Ideal.ofBits .f32 0x38000000#32 = ((1 / 32768 : ℝ) : EReal) := by
  simp [Ideal.ofBits, Ideal.ieee, -EReal.coe_mul]; norm_num

theorem twoInvN : Ideal.ofBits .f32 0x38800000#32 = ((1 / 16384 : ℝ) : EReal) := by
  simp [Ideal.ofBits, Ideal.ieee, -EReal.coe_mul]; norm_num

theorem step128 : Ideal.ofBits .f32 0x3C800000#32 = ((1 / 64 : ℝ) : EReal) := by
  simp [Ideal.ofBits, Ideal.ieee, -EReal.coe_mul]; norm_num

theorem step256 : Ideal.ofBits .f32 0x3C000000#32 = ((1 / 128 : ℝ) : EReal) := by
  simp [Ideal.ofBits, Ideal.ieee, -EReal.coe_mul]; norm_num

theorem margin : Ideal.ofBits .f32 0x35000000#32 = ((1 / 2097152 : ℝ) : EReal) := by
  simp [Ideal.ofBits, Ideal.ieee, -EReal.coe_mul]; norm_num

theorem onePlus : Ideal.ofBits .f32 0x3F800004#32 = ((2097153 / 2097152 : ℝ) : EReal) := by
  simp [Ideal.ofBits, Ideal.ieee, -EReal.coe_mul]; norm_num

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem eq_zero_mask {n : ℕ} (h : n < 2 ^ 32) : IntOp.cmpi .eq (BitVec.ofNat 32 n) 0#32 = if n = 0 then 1#1 else 0#1 := by
  by_cases hn : n = 0
  · subst hn
    rfl
  · have : (BitVec.ofNat 32 n == 0#32) = false := by
      rw [beq_eq_false_iff_ne]
      intro he
      have := congrArg BitVec.toNat he
      rw [BitVec.toNat_ofNat, Nat.mod_eq_of_lt h] at this
      exact hn this
    rw [if_neg hn]
    show BitVec.ofBool (BitVec.ofNat 32 n == 0#32) = 0#1
    rw [this]
    rfl

theorem select_one {α : Type} (a b : α) : Scalar.select 1#1 a b = a := rfl

theorem select_zero {α : Type} (a b : α) : Scalar.select 0#1 a b = b := rfl

theorem select_ite {α : Type} {P : Prop} [Decidable P] (a b : α) : Scalar.select (if P then 1#1 else 0#1) a b = if P then a else b := by
  by_cases h : P
  · rw [if_pos h, if_pos h]; rfl
  · rw [if_neg h, if_neg h]; rfl

theorem mask_ofBool {P : Prop} [Decidable P] : BitVec.ofBool (decide P) = if P then 1#1 else 0#1 := by
  by_cases h : P
  · rw [if_pos h, decide_eq_true h]; rfl
  · rw [if_neg h, decide_eq_false h]; rfl

end Cert.Consts
-- ==== Proof.Spectrum.lean ====
/-
  The body's first two stages at the ideal numbers: on a row of real values, with the tables of roots of unity, the
  second stage holds the row's bins and the column sums give its last bin.
-/
module

public import proofs.«01_k».proof.Proof.Block
public import proofs.«01_k».proof.Proof.Dft
public import proofs.«01_k».proof.Proof.Consts

@[expose] public section

set_option maxRecDepth 100000

noncomputable section

namespace Cert.KernelIdeal.Hand

open Idealize.ShloMosaic Cert.KernelIdeal Cert.KernelIdeal.Gen Cert.Dft Cert.Consts

/-- The tables hold the roots of unity. -/
structure Tables (x1 : Vec Ideal S144x128 .f32) (x2 x3 : Vec Ideal S72x256 .f32) (x4 x5 : Vec Ideal S1x256 .f32)
    (x6 x7 : Vec Ideal S128x256 .f32) (x8 : Vec Ideal S256x256 .f32) (x9 : Vec Ideal S128x512 .f32)
    (x10 : Vec Ideal S128x256 .f32) : Prop where
  t1c : ∀ (i : Fin 72) (a : Fin 128), x1 (ix2 ⟨i, by omega⟩ a) = ((C 128 (i * a) : ℝ) : EReal)
  t1s : ∀ (i : Fin 72) (a : Fin 128), x1 (ix2 ⟨72 + i, by omega⟩ a) = ((-S 128 (i * a) : ℝ) : EReal)
  t2 : ∀ (i : Fin 72) (b : Fin 256), x2 (ix2 i b) = ((C 32768 (i * b) : ℝ) : EReal)
  t3 : ∀ (i : Fin 72) (b : Fin 256), x3 (ix2 i b) = ((-S 32768 (i * b) : ℝ) : EReal)
  t4 : ∀ b : Fin 256, x4 (ix2 0 b) = ((C 256 b : ℝ) : EReal)
  t5 : ∀ b : Fin 256, x5 (ix2 0 b) = ((-S 256 b : ℝ) : EReal)
  t6 : ∀ (i : Fin 128) (b : Fin 256), x6 (ix2 i b) = ((C 32768 (pos i * b) : ℝ) : EReal)
  t7 : ∀ (i : Fin 128) (b : Fin 256), x7 (ix2 i b) = ((-S 32768 (pos i * b) : ℝ) : EReal)
  t8c : ∀ (b : Fin 256) (s : Fin 128), x8 (ix2 b ⟨s, by omega⟩) = ((C 256 (b * s) : ℝ) : EReal)
  t8s : ∀ (b : Fin 256) (s : Fin 128), x8 (ix2 b ⟨128 + s, by omega⟩) = ((-S 256 (b * s) : ℝ) : EReal)
  t9c : ∀ (s : Fin 128) (b : Fin 256), x9 (ix2 s ⟨b, by omega⟩) = ((C 256 (s * b) : ℝ) : EReal)
  t9s : ∀ (s : Fin 128) (b : Fin 256), x9 (ix2 s ⟨256 + b, by omega⟩) = ((S 256 (s * b) : ℝ) : EReal)
  t10c : ∀ (a : Fin 128) (i : Fin 128), x10 (ix2 a ⟨i, by omega⟩) = ((C 128 (a * pos i) : ℝ) : EReal)
  t10s : ∀ (a : Fin 128) (i : Fin 128), x10 (ix2 a ⟨128 + i, by omega⟩) = ((-S 128 (a * pos i) : ℝ) : EReal)

section row

variable {x1 : Vec Ideal S144x128 .f32} {x2 x3 : Vec Ideal S72x256 .f32} {x4 x5 : Vec Ideal S1x256 .f32}
  {x6 x7 : Vec Ideal S128x256 .f32} {x8 : Vec Ideal S256x256 .f32} {x9 : Vec Ideal S128x512 .f32}
  {x10 : Vec Ideal S128x256 .f32} (T : Tables x1 x2 x3 x4 x5 x6 x7 x8 x9 x10)
  {R : Vec Ideal S1x128x256 .f32} {y : Fin 128 → Fin 256 → ℝ} (hR : ∀ a b, R (ix3 0 a b) = ((y a b : ℝ) : EReal))

include T hR

theorem prodG_c (i : Fin 72) (b : Fin 256) :
    prodG x1 R (ix2 ⟨i, by omega⟩ b) = ((∑ a : Fin 128, C 128 (i * a) * y a b : ℝ) : EReal) := by
  pointwise [prodG]
  simp only [hR, T.t1c, ← EReal.coe_mul, sum_coe]

theorem prodG_s (i : Fin 72) (b : Fin 256) :
    prodG x1 R (ix2 ⟨72 + i, by omega⟩ b) = ((∑ a : Fin 128, -S 128 (i * a) * y a b : ℝ) : EReal) := by
  pointwise [prodG]
  simp only [hR, T.t1s, ← EReal.coe_mul, sum_coe]

theorem sumRow_at (b : Fin 256) : sumRow x1 R (ix2 0 b) = ((∑ a : Fin 128, y a b : ℝ) : EReal) := by
  have h := prodG_c T hR 0 b
  pointwise [sumRow]
  refine h.trans ?_
  simp [C]

theorem low_parts (i : ℕ) (b : Fin 256) :
    low y i b = ⟨(∑ a : Fin 128, C 128 (i * a) * y a b) * C 32768 (i * b) - (∑ a : Fin 128, -S 128 (i * a) * y a b) * -S 32768 (i * b),
      (∑ a : Fin 128, C 128 (i * a) * y a b) * -S 32768 (i * b) + (∑ a : Fin 128, -S 128 (i * a) * y a b) * C 32768 (i * b)⟩ := by
  have h : (∑ a : Fin 128, (y a b : ℂ) * e 128 (i * a))
      = ⟨∑ a : Fin 128, C 128 (i * a) * y a b, ∑ a : Fin 128, -S 128 (i * a) * y a b⟩ := by
    apply Complex.ext
    · rw [Complex.re_sum]
      simp [mul_comm]
    · rw [Complex.im_sum]
      simp [mul_comm]
  unfold low
  rw [h, e_eq 32768]
  apply Complex.ext
  · simp [Complex.mul_re]
  · simp [Complex.mul_im]

theorem lowRe_at (i : Fin 72) (b : Fin 256) : lowRe x1 x2 x3 R (ix2 i b) = (((low y i b).re : ℝ) : EReal) := by
  rw [low_parts T hR]
  have h1 := prodG_c T hR i b
  have h2 := prodG_s T hR i b
  pointwise [lowRe]
  rw [h1, h2, T.t2, T.t3, ← EReal.coe_mul, ← EReal.coe_mul, ← EReal.coe_sub]

theorem lowIm_at (i : Fin 72) (b : Fin 256) : lowIm x1 x2 x3 R (ix2 i b) = (((low y i b).im : ℝ) : EReal) := by
  rw [low_parts T hR]
  have h1 := prodG_c T hR i b
  have h2 := prodG_s T hR i b
  pointwise [lowIm]
  rw [h1, h2, T.t2, T.t3, ← EReal.coe_mul, ← EReal.coe_mul, ← EReal.coe_add]

theorem zRe_at (i : Fin 128) (b : Fin 256) : zRe x1 x2 x3 x4 x5 R (ix2 i b) = (((Z y i b).re : ℝ) : EReal) := by
  pointwise [zRe, foldRe, k0_pay18, k0_pay16, k0_pay17, kernelRun0_A.sl.v20]
  by_cases h : i.val < 64
  · rw [dif_pos h, Z_low y (by omega)]
    exact lowRe_at T hR ⟨i, by omega⟩ b
  · rw [dif_neg h, eq_zero_mask (by omega), select_ite]
    by_cases h0 : i.val - 64 = 0
    · rw [if_pos h0, Z_low y (by omega)]
      have hi : i.val = 64 := by omega
      rw [hi]
      exact lowRe_at T hR 64 b
    · rw [if_neg h0]
      have hi : i.val = 64 + (i.val - 64) := by omega
      have h1 := lowRe_at T hR ⟨i.val - 64, by omega⟩ b
      have h2 := lowIm_at T hR ⟨i.val - 64, by omega⟩ b
      rw [h1, h2, T.t4, T.t5, ← EReal.coe_mul, ← EReal.coe_mul, ← EReal.coe_add]
      conv_rhs => rw [hi, Z_high y (by omega) (by omega)]
      congr 1
      simp [Complex.mul_re]
      ring

theorem zIm_at (i : Fin 128) (b : Fin 256) : zIm x1 x2 x3 x4 x5 R (ix2 i b) = (((Z y i b).im : ℝ) : EReal) := by
  pointwise [zIm, foldIm, k0_pay19, k0_pay16, k0_pay17, kernelRun0_A.sl.v20]
  by_cases h : i.val < 64
  · rw [dif_pos h, Z_low y (by omega)]
    exact lowIm_at T hR ⟨i, by omega⟩ b
  · rw [dif_neg h, eq_zero_mask (by omega), select_ite]
    by_cases h0 : i.val - 64 = 0
    · rw [if_pos h0, Z_low y (by omega)]
      have hi : i.val = 64 := by omega
      rw [hi]
      exact lowIm_at T hR 64 b
    · rw [if_neg h0]
      have hi : i.val = 64 + (i.val - 64) := by omega
      have h1 := lowRe_at T hR ⟨i.val - 64, by omega⟩ b
      have h2 := lowIm_at T hR ⟨i.val - 64, by omega⟩ b
      rw [h1, h2, T.t4, T.t5, ← EReal.coe_mul, ← EReal.coe_mul, ← EReal.coe_sub]
      conv_rhs => rw [hi, Z_high y (by omega) (by omega)]
      congr 1
      simp [Complex.mul_im]
      ring

end row

theorem stackZ_at (f : Fin 16 → FVec Ideal S128x256 .f32) (r : Fin 16) (i : Fin 128) (b : Fin 256) :
    stackZ f (ix3 r i b) = f r (ix2 i b) := by
  fin_cases r <;> pointwise [stackZ, k0_pay164]

/-- The alternating signs. -/
theorem sign_at (b : Fin 256) :
    Scalar.select (k0_pay165 (ix3 0 0 b)) (kernelRun0_A.sl.cst_103 (F := Ideal)) kernelRun0_A.sl.cst_104 = (((-1 : ℝ) ^ b.val : ℝ) : EReal) := by
  have h : ∀ b : Fin 256, k0_pay165 (ix3 0 0 b) = if b.val % 2 = 0 then 1#1 else 0#1 := by
    intro b
    pointwise [k0_pay165]
    revert b
    decide +kernel
  rw [h, select_ite]
  show (if _ then Ideal.ofBits .f32 0x3F800000#32 else Ideal.ofBits .f32 0xBF800000#32) = _
  rw [one, negOne]
  by_cases hb : b.val % 2 = 0
  · rw [if_pos hb, (Nat.even_iff.2 hb).neg_one_pow]
  · rw [if_neg hb, (Nat.odd_iff.2 (by omega)).neg_one_pow]

theorem lastBin_at (f : Fin 16 → FVec Ideal S1x256 .f32) (r : Fin 16) :
    lastBin f (ix3 r 0 0) = ∑ b : Fin 256, f r (ix2 0 b) * (((-1 : ℝ) ^ b.val : ℝ) : EReal) := by
  have h : lastBin f (ix3 r 0 0)
      = ∑ b : Fin 256, f r (ix2 0 b) * Scalar.select (k0_pay165 (ix3 0 0 b)) (kernelRun0_A.sl.cst_103 (F := Ideal)) kernelRun0_A.sl.cst_104 := by
    fin_cases r <;> pointwise [lastBin, k0_pay167, k0_pay166]
  rw [h]
  exact Finset.sum_congr rfl fun b _ => by rw [sign_at]

/-- The second stage's real part, over any first stage. -/
theorem second_re (v : FVec Ideal S256x256 .f32) (x z : FVec Ideal S16x128x256 .f32) (r : Fin 16) (i s : Fin 128) :
    k0_pay169 v x z (ix3 r i s) = ∑ b : Fin 256, x (ix3 r i b) * v (ix2 b ⟨s, by omega⟩) - ∑ b : Fin 256, z (ix3 r i b) * v (ix2 b ⟨128 + s, by omega⟩) := by
  pointwise [k0_pay169, k0_pay168]
  have h : r.val * 128 + i.val < 2048 := by omega
  simp only [dif_pos h]

theorem second_im (v : FVec Ideal S256x256 .f32) (x z : FVec Ideal S16x128x256 .f32) (r : Fin 16) (i s : Fin 128) :
    k0_pay170 v x z (ix3 r i s) = ∑ b : Fin 256, x (ix3 r i b) * v (ix2 b ⟨128 + s, by omega⟩) + ∑ b : Fin 256, z (ix3 r i b) * v (ix2 b ⟨s, by omega⟩) := by
  pointwise [k0_pay170, k0_pay168]
  have h : r.val * 128 + i.val < 2048 := by omega
  simp only [dif_pos h]

section block

variable {x1 : Vec Ideal S144x128 .f32} {x2 x3 : Vec Ideal S72x256 .f32} {x4 x5 : Vec Ideal S1x256 .f32}
  {x6 x7 : Vec Ideal S128x256 .f32} {x8 : Vec Ideal S256x256 .f32} {x9 : Vec Ideal S128x512 .f32}
  {x10 : Vec Ideal S128x256 .f32} (T : Tables x1 x2 x3 x4 x5 x6 x7 x8 x9 x10)
  {x0 : Vec Ideal S16x128x256 .f32} {y : Fin 16 → Fin 128 → Fin 256 → ℝ}
  (hx : ∀ r a b, x0 (ix3 r a b) = ((y r a b : ℝ) : EReal))

include T hx

theorem reB_at (r : Fin 16) (i : Fin 128) (b : Fin 256) :
    reB x0 x1 x2 x3 x4 x5 (ix3 r i b) = (((Z (y r) i b).re : ℝ) : EReal) :=
  (stackZ_at _ r i b).trans (zRe_at T (y := y r) (fun a b => hx r a b) i b)

theorem imB_at (r : Fin 16) (i : Fin 128) (b : Fin 256) :
    imB x0 x1 x2 x3 x4 x5 (ix3 r i b) = (((Z (y r) i b).im : ℝ) : EReal) :=
  (stackZ_at _ r i b).trans (zIm_at T (y := y r) (fun a b => hx r a b) i b)

theorem nB_at (r : Fin 16) : nB x0 x1 (ix3 r 0 0) = ((last (y r) : ℝ) : EReal) := by
  unfold nB
  rw [lastBin_at]
  have h : ∀ b, sumRow x1 (rowVec x0 r) (ix2 0 b) = _ := sumRow_at T (y := y r) (fun a b => hx r a b)
  simp only [h, ← EReal.coe_mul, sum_coe]
  rfl

/-- The second stage holds the bins. -/
theorem wRe_at (r : Fin 16) (i s : Fin 128) :
    wRe x0 x1 x2 x3 x4 x5 x8 (ix3 r i s) = (((X (y r) (pos i + 128 * s)).re : ℝ) : EReal) := by
  unfold wRe
  rw [second_re]
  simp only [reB_at T hx, imB_at T hx, T.t8c, T.t8s, ← EReal.coe_mul, sum_coe]
  rw [← EReal.coe_sub, ← second, Complex.re_sum, ← Finset.sum_sub_distrib]
  congr 1
  refine Finset.sum_congr rfl fun b _ => ?_
  simp [Complex.mul_re]

theorem wIm_at (r : Fin 16) (i s : Fin 128) :
    wIm x0 x1 x2 x3 x4 x5 x8 (ix3 r i s) = (((X (y r) (pos i + 128 * s)).im : ℝ) : EReal) := by
  unfold wIm
  rw [second_im]
  simp only [reB_at T hx, imB_at T hx, T.t8c, T.t8s, ← EReal.coe_mul, sum_coe]
  rw [← EReal.coe_add, ← second, Complex.im_sum, ← Finset.sum_add_distrib]
  congr 1
  refine Finset.sum_congr rfl fun b _ => ?_
  simp [Complex.mul_im]

/-- The squared magnitudes, the last bin's in the zero bin's place. -/
theorem powB_at (r : Fin 16) (i s : Fin 128) :
    powB x0 x1 x2 x3 x4 x5 x8 (ix3 r i s) = ((Complex.normSq (X (y r) (bin i s)) : ℝ) : EReal) := by
  have hi := i.isLt
  have hs := s.isLt
  pointwise [powB, power, k0_pay171]
  rw [nB_at T hx, wRe_at T hx, wIm_at T hx, eq_zero_mask (by omega), eq_zero_mask (by omega)]
  unfold bin
  by_cases h : i.val = 0 ∧ s.val = 0
  · rw [if_pos h, if_pos h.1, if_pos h.2, X_last, Complex.normSq_ofReal, EReal.coe_mul]
    rfl
  · rw [if_neg h]
    have hm : IntOp.andi (if i.val = 0 then 1#1 else 0#1) (if s.val = 0 then 1#1 else 0#1) = 0#1 := by
      by_cases h1 : i.val = 0
      · rw [if_pos h1, if_neg fun h2 => h ⟨h1, h2⟩]
        rfl
      · rw [if_neg h1]
        by_cases h2 : s.val = 0
        · rw [if_pos h2]; rfl
        · rw [if_neg h2]; rfl
    rw [hm, select_zero, ← EReal.coe_mul, ← EReal.coe_mul, ← EReal.coe_add, Complex.normSq_apply]

end block

end Cert.KernelIdeal.Hand
-- ==== Proof.Angle.lean ====
/-
  The tables' entries at the ideal numbers: a cosine or sine of a reduced index times the step is that of the angle.
-/
module

public import proofs.«01_k».proof.Proof.Dft
public import proofs.«01_k».proof.Proof.Consts
public import Idealize.ShloMosaic.Lib.Affine

@[expose] public section

noncomputable section

namespace Cert.Angle

open Idealize.ShloMosaic Cert.Dft Cert.Consts

theorem word_mul (a b : ℕ) : IntOp.muli (BitVec.ofNat 32 a) (BitVec.ofNat 32 b) = BitVec.ofNat 32 (a * b) := (BitVec.ofNat_mul a b).symm

theorem word_pos (i : Fin 128) :
    Scalar.select (IntOp.cmpi .sle (BitVec.ofNat 32 i.val) 64#32) (BitVec.ofNat 32 i.val) (IntOp.subi 192#32 (BitVec.ofNat 32 i.val))
      = BitVec.ofNat 32 (pos i.val) := by
  revert i
  decide +kernel

theorem acos_negOne : Ideal.acos (Ideal.ofBits .f32 0xBF800000#32) = ((Real.pi : ℝ) : EReal) := by
  rw [negOne, Ideal.acos_coe, if_pos ⟨le_rfl, by norm_num⟩, Real.arccos_neg_one]

/-- The reduced index, as a number. -/
theorem index_at (p n : ℕ) (hp : 0 < p) (hp' : 2 * p < 2 ^ 32) (hn : 2 * n < 2 ^ 32) :
    FloatOps.sitofp (F := Ideal) .f32 (IntOp.remsi .host (BitVec.ofNat 32 n) (BitVec.ofNat 32 p)) = ((n % p : ℕ) : ℝ) := by
  have hN : (BitVec.ofNat 32 n).toNat = n := by rw [BitVec.toNat_ofNat]; omega
  have h := IntOp.toNat_remsi .host (x := BitVec.ofNat 32 n) (by rw [hN]; exact hn) p hp hp'
  rw [hN] at h
  have hlt : n % p < p := Nat.mod_lt _ hp
  refine (Ideal.scalar_sitofp_def _).trans ?_
  rw [BitVec.toInt_eq_toNat_of_lt (by rw [h]; omega), h]
  norm_cast

theorem angle_at (p n : ℕ) (hp : 0 < p) (hp' : 2 * p < 2 ^ 32) (hn : 2 * n < 2 ^ 32) {w : BitVec 32}
    (hw : Ideal.ofBits .f32 w = ((2 / p : ℝ) : EReal)) :
    FloatOps.sitofp (F := Ideal) .f32 (IntOp.remsi .host (BitVec.ofNat 32 n) (BitVec.ofNat 32 p))
        * (Ideal.acos (Ideal.ofBits .f32 0xBF800000#32) * Ideal.ofBits .f32 w)
      = ((2 * Real.pi * (n % p : ℕ) / p : ℝ) : EReal) := by
  rw [index_at p n hp hp' hn, acos_negOne, hw, ← EReal.coe_mul, ← EReal.coe_mul]
  congr 1
  ring

theorem cos_at (p n : ℕ) (hp : 0 < p) (hp' : 2 * p < 2 ^ 32) (hn : 2 * n < 2 ^ 32) {w : BitVec 32}
    (hw : Ideal.ofBits .f32 w = ((2 / p : ℝ) : EReal)) :
    Ideal.cos (FloatOps.sitofp (F := Ideal) .f32 (IntOp.remsi .host (BitVec.ofNat 32 n) (BitVec.ofNat 32 p))
        * (Ideal.acos (Ideal.ofBits .f32 0xBF800000#32) * Ideal.ofBits .f32 w)) = ((C p n : ℝ) : EReal) := by
  rw [angle_at p n hp hp' hn hw, Ideal.cos_coe, ← C_mod p n hp.ne']
  rfl

theorem sin_at (p n : ℕ) (hp : 0 < p) (hp' : 2 * p < 2 ^ 32) (hn : 2 * n < 2 ^ 32) {w : BitVec 32}
    (hw : Ideal.ofBits .f32 w = ((2 / p : ℝ) : EReal)) :
    Ideal.sin (FloatOps.sitofp (F := Ideal) .f32 (IntOp.remsi .host (BitVec.ofNat 32 n) (BitVec.ofNat 32 p))
        * (Ideal.acos (Ideal.ofBits .f32 0xBF800000#32) * Ideal.ofBits .f32 w)) = ((S p n : ℝ) : EReal) := by
  rw [angle_at p n hp hp' hn hw, Ideal.sin_coe, ← S_mod p n hp.ne']
  rfl

theorem step_32768 : Ideal.ofBits .f32 947912704#32 = ((2 / (32768 : ℕ) : ℝ) : EReal) := by
  rw [show Ideal.ofBits .f32 947912704#32 = _ from twoInvN]
  norm_num

theorem step_128 : Ideal.ofBits .f32 1015021568#32 = ((2 / (128 : ℕ) : ℝ) : EReal) := by
  rw [show Ideal.ofBits .f32 1015021568#32 = _ from step128]
  norm_num

theorem step_256 : Ideal.ofBits .f32 1006632960#32 = ((2 / (256 : ℕ) : ℝ) : EReal) := by
  rw [show Ideal.ofBits .f32 1006632960#32 = _ from step256]
  norm_num

theorem cosN (n : ℕ) (hn : n < 2147483648) :
    Ideal.cos (FloatOps.sitofp (F := Ideal) .f32 (IntOp.remsi .host (BitVec.ofNat 32 n) 32768#32)
        * (Ideal.acos (Ideal.ofBits .f32 3212836864#32) * Ideal.ofBits .f32 947912704#32)) = ((C 32768 n : ℝ) : EReal) :=
  cos_at 32768 n (by decide) (by decide) (by omega) step_32768

theorem sinN (n : ℕ) (hn : n < 2147483648) :
    Ideal.sin (FloatOps.sitofp (F := Ideal) .f32 (IntOp.remsi .host (BitVec.ofNat 32 n) 32768#32)
        * (Ideal.acos (Ideal.ofBits .f32 3212836864#32) * Ideal.ofBits .f32 947912704#32)) = ((S 32768 n : ℝ) : EReal) :=
  sin_at 32768 n (by decide) (by decide) (by omega) step_32768

theorem cos128 (n : ℕ) (hn : n < 2147483648) :
    Ideal.cos (FloatOps.sitofp (F := Ideal) .f32 (IntOp.remsi .host (BitVec.ofNat 32 n) 128#32)
        * (Ideal.acos (Ideal.ofBits .f32 3212836864#32) * Ideal.ofBits .f32 1015021568#32)) = ((C 128 n : ℝ) : EReal) :=
  cos_at 128 n (by decide) (by decide) (by omega) step_128

theorem sin128 (n : ℕ) (hn : n < 2147483648) :
    Ideal.sin (FloatOps.sitofp (F := Ideal) .f32 (IntOp.remsi .host (BitVec.ofNat 32 n) 128#32)
        * (Ideal.acos (Ideal.ofBits .f32 3212836864#32) * Ideal.ofBits .f32 1015021568#32)) = ((S 128 n : ℝ) : EReal) :=
  sin_at 128 n (by decide) (by decide) (by omega) step_128

theorem cos256 (n : ℕ) (hn : n < 2147483648) :
    Ideal.cos (FloatOps.sitofp (F := Ideal) .f32 (IntOp.remsi .host (BitVec.ofNat 32 n) 256#32)
        * (Ideal.acos (Ideal.ofBits .f32 3212836864#32) * Ideal.ofBits .f32 1006632960#32)) = ((C 256 n : ℝ) : EReal) :=
  cos_at 256 n (by decide) (by decide) (by omega) step_256

theorem sin256 (n : ℕ) (hn : n < 2147483648) :
    Ideal.sin (FloatOps.sitofp (F := Ideal) .f32 (IntOp.remsi .host (BitVec.ofNat 32 n) 256#32)
        * (Ideal.acos (Ideal.ofBits .f32 3212836864#32) * Ideal.ofBits .f32 1006632960#32)) = ((S 256 n : ℝ) : EReal) :=
  sin_at 256 n (by decide) (by decide) (by omega) step_256

end Cert.Angle
-- ==== Proof.Tables.lean ====
/-
  The host's tables, as the kernel's windows bring them in: the roots of unity.
-/
module

public import proofs.«01_k».proof.Proof.Gen.KernelIdeal.Value
public import proofs.«01_k».proof.Proof.Spectrum
public import proofs.«01_k».proof.Proof.Angle
public import Idealize.ShloMosaic.Lib.Pipeline.ValueKit.Point
public import Idealize.ShloMosaic.Lib.StableHlo.RunRead

@[expose] public section

set_option maxRecDepth 100000

noncomputable section

namespace Cert.KernelIdeal.Hand

open Idealize.ShloMosaic Cert.KernelIdeal Cert.KernelIdeal.Gen Cert.Dft Cert.Consts Cert.Angle

variable (m : (ℓ : Loc nD τ sig) → Buf (Elt Ideal) ℓ)

theorem prod_lt {a b : ℕ} (ha : a < 512) (hb : b < 512) : a * b < 2147483648 :=
  lt_of_le_of_lt (Nat.mul_le_mul ha.le hb.le) (by norm_num)

theorem V20c (c : Dev nD) (i : Fin 72) (a : Fin 128) : V m c main_v20 (ix2 ⟨i, by omega⟩ a) = ((C 128 (i * a) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [word_mul]
  exact cos128 _ (prod_lt (by omega) (by omega))

theorem V20s (c : Dev nD) (i : Fin 72) (a : Fin 128) : V m c main_v20 (ix2 ⟨72 + i, by omega⟩ a) = ((-S 128 (i * a) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  rw [word_mul]
  exact sin128 _ (prod_lt (by omega) (by omega))

theorem V31 (c : Dev nD) (i : Fin 72) (b : Fin 256) : V m c main_v31 (ix2 i b) = ((C 32768 (i * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [word_mul]
  exact cosN _ (prod_lt (by omega) (by omega))

theorem V40 (c : Dev nD) (i : Fin 72) (b : Fin 256) : V m c main_v40 (ix2 i b) = ((-S 32768 (i * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  rw [word_mul]
  exact sinN _ (prod_lt (by omega) (by omega))

theorem V53 (c : Dev nD) (b : Fin 256) : V m c main_v53 (ix2 0 b) = ((C 256 b : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  have hb := b.isLt
  refine Eq.trans ?_ (cos256 b.val (by omega))
  simp [IntOp.muli, IntOp.addi]

theorem V62 (c : Dev nD) (b : Fin 256) : V m c main_v62 (ix2 0 b) = ((-S 256 b : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  have hb := b.isLt
  refine Eq.trans ?_ (sin256 b.val (by omega))
  simp [IntOp.muli, IntOp.addi]

theorem V78 (c : Dev nD) (i : Fin 128) (b : Fin 256) : V m c main_v78 (ix2 i b) = ((C 32768 (pos i * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  have hp := pos_lt i.isLt
  refine Eq.trans ?_ (cosN _ (prod_lt (by omega) (by omega)))
  rw [← word_mul, ← word_pos]
  rfl

theorem V87 (c : Dev nD) (i : Fin 128) (b : Fin 256) : V m c main_v87 (ix2 i b) = ((-S 32768 (pos i * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  have hp := pos_lt i.isLt
  refine Eq.trans ?_ (sinN _ (prod_lt (by omega) (by omega)))
  rw [← word_mul, ← word_pos]
  rfl

theorem V108c (c : Dev nD) (b : Fin 256) (s : Fin 128) : V m c main_v108 (ix2 b ⟨s, by omega⟩) = ((C 256 (b * s) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [word_mul]
  exact cos256 _ (prod_lt (by omega) (by omega))

theorem V108s (c : Dev nD) (b : Fin 256) (s : Fin 128) : V m c main_v108 (ix2 b ⟨128 + s, by omega⟩) = ((-S 256 (b * s) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  rw [word_mul]
  exact sin256 _ (prod_lt (by omega) (by omega))

theorem V128c (c : Dev nD) (s : Fin 128) (b : Fin 256) : V m c main_v128 (ix2 s ⟨b, by omega⟩) = ((C 256 (s * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [word_mul]
  exact cos256 _ (prod_lt (by omega) (by omega))

theorem V128s (c : Dev nD) (s : Fin 128) (b : Fin 256) : V m c main_v128 (ix2 s ⟨256 + b, by omega⟩) = ((S 256 (s * b) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [word_mul]
  exact sin256 _ (prod_lt (by omega) (by omega))

theorem V154c (c : Dev nD) (a i : Fin 128) : V m c main_v154 (ix2 a ⟨i, by omega⟩) = ((C 128 (a * pos i) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  have hp := pos_lt i.isLt
  refine Eq.trans ?_ (cos128 _ (prod_lt (by omega) (by omega)))
  rw [← word_mul, ← word_pos]
  rfl

theorem V154s (c : Dev nD) (a i : Fin 128) : V m c main_v154 (ix2 a ⟨128 + i, by omega⟩) = ((-S 128 (a * pos i) : ℝ) : EReal) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  rw [EReal.coe_neg]
  refine congrArg (fun z : EReal => -z) ?_
  have hp := pos_lt i.isLt
  refine Eq.trans ?_ (sin128 _ (prod_lt (by omega) (by omega)))
  rw [← word_mul, ← word_pos]
  rfl

theorem blk1 (c : Dev nD) (t : Fin cfg0.N) (i : Fin 144) (j : Fin 128) : iblk m c 1 t (ix2 i j) = V m c main_v20 (ix2 i j) := by
  blk_point [iblk, V, show win0_1.index t 0 = 0 from rfl, show win0_1.index t 1 = 0 from rfl]

theorem blk2 (c : Dev nD) (t : Fin cfg0.N) (i : Fin 72) (j : Fin 256) : iblk m c 2 t (ix2 i j) = V m c main_v31 (ix2 i j) := by
  blk_point [iblk, V, show win0_2.index t 0 = 0 from rfl, show win0_2.index t 1 = 0 from rfl]

theorem blk3 (c : Dev nD) (t : Fin cfg0.N) (i : Fin 72) (j : Fin 256) : iblk m c 3 t (ix2 i j) = V m c main_v40 (ix2 i j) := by
  blk_point [iblk, V, show win0_3.index t 0 = 0 from rfl, show win0_3.index t 1 = 0 from rfl]

theorem blk4 (c : Dev nD) (t : Fin cfg0.N) (i : Fin 1) (j : Fin 256) : iblk m c 4 t (ix2 i j) = V m c main_v53 (ix2 i j) := by
  blk_point [iblk, V, show win0_4.index t 0 = 0 from rfl, show win0_4.index t 1 = 0 from rfl]

theorem blk5 (c : Dev nD) (t : Fin cfg0.N) (i : Fin 1) (j : Fin 256) : iblk m c 5 t (ix2 i j) = V m c main_v62 (ix2 i j) := by
  blk_point [iblk, V, show win0_5.index t 0 = 0 from rfl, show win0_5.index t 1 = 0 from rfl]

theorem blk6 (c : Dev nD) (t : Fin cfg0.N) (i : Fin 128) (j : Fin 256) : iblk m c 6 t (ix2 i j) = V m c main_v78 (ix2 i j) := by
  blk_point [iblk, V, show win0_6.index t 0 = 0 from rfl, show win0_6.index t 1 = 0 from rfl]

theorem blk7 (c : Dev nD) (t : Fin cfg0.N) (i : Fin 128) (j : Fin 256) : iblk m c 7 t (ix2 i j) = V m c main_v87 (ix2 i j) := by
  blk_point [iblk, V, show win0_7.index t 0 = 0 from rfl, show win0_7.index t 1 = 0 from rfl]

theorem blk8 (c : Dev nD) (t : Fin cfg0.N) (i : Fin 256) (j : Fin 256) : iblk m c 8 t (ix2 i j) = V m c main_v108 (ix2 i j) := by
  blk_point [iblk, V, show win0_8.index t 0 = 0 from rfl, show win0_8.index t 1 = 0 from rfl]

theorem blk9 (c : Dev nD) (t : Fin cfg0.N) (i : Fin 128) (j : Fin 512) : iblk m c 9 t (ix2 i j) = V m c main_v128 (ix2 i j) := by
  blk_point [iblk, V, show win0_9.index t 0 = 0 from rfl, show win0_9.index t 1 = 0 from rfl]

theorem blk10 (c : Dev nD) (t : Fin cfg0.N) (i : Fin 128) (j : Fin 256) : iblk m c 10 t (ix2 i j) = V m c main_v154 (ix2 i j) := by
  blk_point [iblk, V, show win0_10.index t 0 = 0 from rfl, show win0_10.index t 1 = 0 from rfl]

/-- The windows bring in the roots of unity. -/
theorem tables (c : Dev nD) (t : Fin cfg0.N) : Tables (iblk m c 1 t) (iblk m c 2 t) (iblk m c 3 t) (iblk m c 4 t) (iblk m c 5 t)
    (iblk m c 6 t) (iblk m c 7 t) (iblk m c 8 t) (iblk m c 9 t) (iblk m c 10 t) where
  t1c i j := (blk1 m c t _ _).trans (V20c m c i j)
  t1s i j := (blk1 m c t _ _).trans (V20s m c i j)
  t2 i j := (blk2 m c t _ _).trans (V31 m c i j)
  t3 i j := (blk3 m c t _ _).trans (V40 m c i j)
  t6 i j := (blk6 m c t _ _).trans (V78 m c i j)
  t7 i j := (blk7 m c t _ _).trans (V87 m c i j)
  t8c i j := (blk8 m c t _ _).trans (V108c m c i j)
  t8s i j := (blk8 m c t _ _).trans (V108s m c i j)
  t9c i j := (blk9 m c t _ _).trans (V128c m c i j)
  t9s i j := (blk9 m c t _ _).trans (V128s m c i j)
  t10c i j := (blk10 m c t _ _).trans (V154c m c i j)
  t10s i j := (blk10 m c t _ _).trans (V154s m c i j)
  t4 b := (blk4 m c t 0 b).trans (V53 m c b)
  t5 b := (blk5 m c t 0 b).trans (V62 m c b)

end Cert.KernelIdeal.Hand
-- ==== Proof.Fifth.lean ====
/-
  The fifth largest of finitely many values: what singles it out, that five rounds of "take the largest, count it, cross
  it out" find it, and that the least of a descending order's first five is it.
-/
module

public import Idealize.ShloMosaic.Lib.Pointwise

@[expose] public section

namespace Cert.Fifth

open Finset

variable {ι : Type} [Fintype ι]

/-- `T` is the fifth largest value of `f`: at most four are above it, at least five are not below it. -/
structure IsFifth {α : Type} [LinearOrder α] (f : ι → α) (T : α) : Prop where
  above : (univ.filter fun x => T < f x).card ≤ 4
  notBelow : 5 ≤ (univ.filter fun x => T ≤ f x).card

theorem IsFifth.le {α : Type} [LinearOrder α] {f : ι → α} {T T' : α} (h : IsFifth f T) (h' : IsFifth f T') : T' ≤ T := by
  by_contra hlt
  push Not at hlt
  have hs : (univ.filter fun x => T' ≤ f x) ⊆ univ.filter fun x => T < f x := fun x hx => by
    rw [mem_filter] at hx ⊢
    exact ⟨hx.1, lt_of_lt_of_le hlt hx.2⟩
  have := card_le_card hs
  have := h.above
  have := h'.notBelow
  omega

/-- There is one fifth largest value. -/
theorem IsFifth.unique {α : Type} [LinearOrder α] {f : ι → α} {T T' : α} (h : IsFifth f T) (h' : IsFifth f T') : T = T' :=
  le_antisymm (h'.le h) (h.le h')

/-- The fifth largest of real values is a real. -/
theorem IsFifth.real {f : ι → ℝ} {T : EReal} (h : IsFifth (fun x => (f x : EReal)) T) (hcard : 5 ≤ Fintype.card ι) :
    ∃ t : ℝ, T = (t : EReal) ∧ IsFifth f t := by
  have htop : T ≠ ⊤ := fun ht => by
    have h5 := h.notBelow
    rw [ht, show (univ.filter fun x => (⊤ : EReal) ≤ (f x : EReal)) = ∅ from by simp] at h5
    simp at h5
  have hbot : T ≠ ⊥ := fun hb => by
    have h4 := h.above
    rw [hb, show (univ.filter fun x => (⊥ : EReal) < (f x : EReal)) = univ from by simp [EReal.bot_lt_coe], card_univ] at h4
    omega
  lift T to ℝ using ⟨htop, hbot⟩
  exact ⟨T, rfl, by simpa only [EReal.coe_lt_coe_iff] using h.above, by simpa only [EReal.coe_le_coe_iff] using h.notBelow⟩

/-! ## Five rounds -/

/-- `v` is the largest value of `p`. -/
def IsTop (p : ι → EReal) (v : EReal) : Prop := (∀ x, p x ≤ v) ∧ ∃ x, p x = v

/-- How often `p` is `v`. -/
noncomputable def count (p : ι → EReal) (v : EReal) : ℕ := (univ.filter fun x => p x = v).card

/-- After some rounds: the values below `u` are there, the others are crossed out, and these are `c`. -/
structure Left (f p : ι → EReal) (u : EReal) (c : ℕ) : Prop where
  left : ∀ x, p x = if f x < u then f x else -1
  counted : (univ.filter fun x => u ≤ f x).card = c

theorem Left.step {f p p' : ι → EReal} {u v : EReal} {c : ℕ} (hf : ∀ x, 0 ≤ f x) (h : Left f p u c) (hc : c < Fintype.card ι)
    (hv : IsTop p v) (hp' : ∀ x, p' x = if p x = v then -1 else p x) :
    Left f p' v (c + count p v) ∧ (univ.filter fun x => v < f x).card = c ∧ 1 ≤ count p v := by
  classical
  obtain ⟨hmax, x0, hx0⟩ := hv
  have hneg : (-1 : EReal) < 0 := by
    have : ((-1 : ℝ) : EReal) < ((0 : ℝ) : EReal) := EReal.coe_lt_coe_iff.2 (by norm_num)
    simpa using this
  -- some value is left, so the largest is not a crossed out one
  obtain ⟨x1, hx1⟩ : ∃ x, f x < u := by
    by_contra hn
    push Not at hn
    have : (univ.filter fun x => u ≤ f x) = univ := filter_true_of_mem fun x _ => hn x
    have h2 := h.counted
    rw [this, card_univ] at h2
    omega
  have hv0 : 0 ≤ v := by
    have := hmax x1
    rw [h.left x1, if_pos hx1] at this
    exact le_trans (hf x1) this
  have hvu : v < u := by
    rw [h.left x0] at hx0
    by_cases hlt : f x0 < u
    · rw [if_pos hlt] at hx0
      exact hx0 ▸ hlt
    · rw [if_neg hlt] at hx0
      exact absurd (hx0 ▸ hv0) (not_le.2 hneg)
  have hle : ∀ x, f x < u → f x ≤ v := fun x hx => by
    have := hmax x
    rwa [h.left x, if_pos hx] at this
  have heq : ∀ x, p x = v ↔ f x = v := fun x => by
    rw [h.left x]
    by_cases hlt : f x < u
    · rw [if_pos hlt]
    · rw [if_neg hlt]
      refine ⟨fun hx => absurd (hx ▸ hv0) (not_le.2 hneg), fun hx => absurd (hx ▸ hvu) hlt⟩
  have hgt : ∀ x, v < f x ↔ u ≤ f x := fun x =>
    ⟨fun hx => not_lt.1 fun hlt => absurd (hle x hlt) (not_le.2 hx), fun hx => lt_of_lt_of_le hvu hx⟩
  have habove : (univ.filter fun x => v < f x).card = c := by
    rw [← h.counted]
    exact congrArg card (filter_congr fun x _ => hgt x)
  have hcount : count p v = (univ.filter fun x => f x = v).card := congrArg card (filter_congr fun x _ => heq x)
  refine ⟨⟨fun x => ?_, ?_⟩, habove, ?_⟩
  · rw [hp' x]
    by_cases hx : p x = v
    · rw [if_pos hx, if_neg (by rw [(heq x).1 hx]; exact lt_irrefl v)]
    · rw [if_neg hx, h.left x]
      have hne : f x ≠ v := fun hn => hx ((heq x).2 hn)
      by_cases hlt : f x < u
      · rw [if_pos hlt, if_pos (lt_of_le_of_ne (hle x hlt) hne)]
      · rw [if_neg hlt, if_neg (fun hn => hlt (lt_trans hn hvu))]
  · rw [hcount, ← habove, ← card_union_of_disjoint]
    · refine congrArg card (ext fun x => ?_)
      simp only [mem_filter, mem_univ, true_and, mem_union]
      exact ⟨fun hx => (lt_or_eq_of_le hx).imp id Eq.symm, fun hx => hx.elim le_of_lt fun hx => hx.ge⟩
    · refine disjoint_filter.2 fun x _ hx hn => ?_
      rw [hn] at hx
      exact lt_irrefl v hx
  · rw [count]
    exact card_pos.2 ⟨x0, mem_filter.2 ⟨mem_univ _, hx0⟩⟩

/-- Five rounds find the fifth largest value: the first round's largest value whose running count reaches five. -/
theorem rounds (hcard : 5 ≤ Fintype.card ι) {p0 p1 p2 p3 p4 : ι → EReal} {v0 v1 v2 v3 v4 : EReal}
    (hf : ∀ x, 0 ≤ p0 x) (hf' : ∀ x, p0 x < ⊤)
    (h0 : IsTop p0 v0) (h1 : IsTop p1 v1) (h2 : IsTop p2 v2) (h3 : IsTop p3 v3) (h4 : IsTop p4 v4)
    (e1 : ∀ x, p1 x = if p0 x = v0 then -1 else p0 x) (e2 : ∀ x, p2 x = if p1 x = v1 then -1 else p1 x)
    (e3 : ∀ x, p3 x = if p2 x = v2 then -1 else p2 x) (e4 : ∀ x, p4 x = if p3 x = v3 then -1 else p3 x) :
    IsFifth p0 (if 5 ≤ count p0 v0 then v0 else if 5 ≤ count p0 v0 + count p1 v1 then v1
      else if 5 ≤ count p0 v0 + count p1 v1 + count p2 v2 then v2
      else if 5 ≤ count p0 v0 + count p1 v1 + count p2 v2 + count p3 v3 then v3 else v4) := by
  have l0 : Left p0 p0 ⊤ 0 := ⟨fun x => (if_pos (hf' x)).symm, by
    rw [card_eq_zero, filter_eq_empty_iff]
    exact fun x _ => not_le.2 (hf' x)⟩
  obtain ⟨l1, a1, c1⟩ := l0.step hf (by omega) h0 e1
  rw [zero_add] at l1
  split
  case isTrue hc => exact ⟨by omega, l1.counted ▸ hc⟩
  case isFalse hc =>
  obtain ⟨l2, a2, c2⟩ := l1.step hf (by omega) h1 e2
  split
  case isTrue hc => exact ⟨by omega, l2.counted ▸ hc⟩
  case isFalse hc =>
  obtain ⟨l3, a3, c3⟩ := l2.step hf (by omega) h2 e3
  split
  case isTrue hc => exact ⟨by omega, l3.counted ▸ hc⟩
  case isFalse hc =>
  obtain ⟨l4, a4, c4⟩ := l3.step hf (by omega) h3 e4
  split
  case isTrue hc => exact ⟨by omega, l4.counted ▸ hc⟩
  case isFalse hc =>
  obtain ⟨l5, a5, c5⟩ := l4.step (p' := fun x => if p4 x = v4 then -1 else p4 x) hf (by omega) h4 (fun _ => rfl)
  exact ⟨by omega, by rw [l5.counted]; omega⟩

/-! ## The least of the first five in descending order -/

theorem sorted {n : ℕ} (hn : 5 ≤ n) {g : Fin n → EReal} {σ : Fin n → Fin n} (hσ : Function.Bijective σ)
    (hmono : ∀ i j : Fin n, i < j → g (σ j) ≤ g (σ i)) {θ : EReal} (hle : ∀ j : Fin n, j.val < 5 → θ ≤ g (σ j))
    (hmem : ∃ j : Fin n, j.val < 5 ∧ θ = g (σ j)) : IsFifth g θ := by
  obtain ⟨j0, hj0, rfl⟩ := hmem
  constructor
  · have hs : (univ.filter fun x => g (σ j0) < g x) ⊆ (univ.filter fun j : Fin n => j.val < 4).image σ := fun x hx => by
      obtain ⟨m, rfl⟩ := hσ.2 x
      rw [mem_filter] at hx
      refine mem_image.2 ⟨m, mem_filter.2 ⟨mem_univ _, ?_⟩, rfl⟩
      by_contra hm
      rcases lt_or_eq_of_le (show j0 ≤ m by rw [Fin.le_def]; omega) with hlt | heq
      · exact absurd (hmono _ _ hlt) (not_le.2 hx.2)
      · rw [heq] at hx
        exact lt_irrefl _ hx.2
    refine (card_le_card hs).trans (card_image_le.trans ?_)
    have : (univ.filter fun j : Fin n => j.val < 4) ⊆ (univ : Finset (Fin 4)).image (fun k => (⟨k.val, by omega⟩ : Fin n)) := fun j hj => by
      rw [mem_filter] at hj
      exact mem_image.2 ⟨⟨j.val, hj.2⟩, mem_univ _, rfl⟩
    exact (card_le_card this).trans (card_image_le.trans (by simp))
  · have hs : ((univ : Finset (Fin 5)).image (fun k => σ (⟨k.val, by omega⟩ : Fin n))) ⊆ univ.filter fun x => g (σ j0) ≤ g x := fun x hx => by
      obtain ⟨k, _, rfl⟩ := mem_image.1 hx
      exact mem_filter.2 ⟨mem_univ _, hle _ k.2⟩
    refine le_trans ?_ (card_le_card hs)
    rw [card_image_of_injective _ fun a b hab => Fin.ext (by simpa using congrArg Fin.val (hσ.1 hab))]
    simp

end Cert.Fifth
-- ==== Proof.Peaks.lean ====
/-
  The body's peak search at the ideal numbers: five rounds of largest value, its count and crossing out give the fifth
  largest squared magnitude, and the mask keeps the bins above it by the margin.
-/
module

public import proofs.«01_k».proof.Proof.Spectrum
public import proofs.«01_k».proof.Proof.Fifth

@[expose] public section

set_option maxRecDepth 100000

noncomputable section

namespace Cert.KernelIdeal.Hand

open Idealize.ShloMosaic Cert.KernelIdeal Cert.KernelIdeal.Gen Cert.Dft Cert.Consts Cert.Fifth

/-- A row's values, as a function of the bin. -/
def flat (p : FVec Ideal S16x128x128 .f32) (r : Fin 16) (z : Fin 128 × Fin 128) : EReal := p (ix3 r z.1 z.2)

theorem fold_max_top {ι : Type} [Fintype ι] [Nonempty ι] (f : ι → EReal) :
    (∀ x, f x ≤ Finset.fold max ⊥ f Finset.univ) ∧ ∃ x, f x = Finset.fold max ⊥ f Finset.univ := by
  refine ⟨fun x => (Finset.le_fold_max _).2 (.inr ⟨x, Finset.mem_univ x, le_rfl⟩), ?_⟩
  obtain ⟨x, _, hx⟩ := Finset.exists_max_image Finset.univ f Finset.univ_nonempty
  exact ⟨x, le_antisymm ((Finset.le_fold_max _).2 (.inr ⟨x, Finset.mem_univ x, le_rfl⟩))
    ((Finset.fold_max_le _).2 ⟨bot_le, fun z hz => hx z hz⟩)⟩

theorem top_isTop (p : FVec Ideal S16x128x128 .f32) (r : Fin 16) : IsTop (flat p r) (top p (ix3 r 0 0)) := by
  have h : top p (ix3 r 0 0) = Finset.fold max ⊥ (fun s : Fin 128 => Finset.fold max ⊥ (fun i : Fin 128 => flat p r (i, s)) Finset.univ) Finset.univ := by
    pointwise [top, k0_pay174, flat]
    simp only [show Ideal.ofBits .f32 4286578688#32 = ⊥ from negInf]
  rw [h]
  have ho := fold_max_top (fun s : Fin 128 => Finset.fold max ⊥ (fun i : Fin 128 => flat p r (i, s)) Finset.univ)
  refine ⟨fun z => ((fold_max_top fun i : Fin 128 => flat p r (i, z.2)).1 z.1).trans (ho.1 z.2), ?_⟩
  obtain ⟨s, hs⟩ := ho.2
  obtain ⟨i, hi⟩ := (fold_max_top fun i : Fin 128 => flat p r (i, s)).2
  exact ⟨(i, s), hi.trans hs⟩

theorem atTop_at (p : FVec Ideal S16x128x128 .f32) (r : Fin 16) (i s : Fin 128) :
    atTop p (ix3 r i s) = if p (ix3 r i s) = top p (ix3 r 0 0) then 1#1 else 0#1 := by
  pointwise [atTop, k0_pay175, top]
  exact mask_ofBool

theorem topCount_at (p : FVec Ideal S16x128x128 .f32) (r : Fin 16) :
    topCount p (ix3 r 0 0) = ((Fifth.count (flat p r) (top p (ix3 r 0 0)) : ℝ) : EReal) := by
  have h : topCount p (ix3 r 0 0) = ∑ s : Fin 128, ∑ i : Fin 128, FloatOps.sitofp (F := Ideal) FTy.f32 (BitVec.setWidth 32 (atTop p (ix3 r i s))) := by
    pointwise [topCount]
  have hb : ∀ i s : Fin 128, FloatOps.sitofp (F := Ideal) FTy.f32 (BitVec.setWidth 32 (atTop p (ix3 r i s)))
      = ((if flat p r (i, s) = top p (ix3 r 0 0) then 1 else 0 : ℝ) : EReal) := by
    intro i s
    rw [atTop_at]
    refine (Ideal.scalar_sitofp_def _).trans ?_
    unfold flat
    split <;> simp
  rw [h]
  simp only [hb, sum_coe]
  unfold Fifth.count
  rw [Finset.sum_comm, ← Fintype.sum_prod_type' (fun (i : Fin 128) (s : Fin 128) => if flat p r (i, s) = top p (ix3 r 0 0) then (1 : ℝ) else 0), Finset.sum_boole]

theorem crossed_at (p : FVec Ideal S16x128x128 .f32) (r : Fin 16) (z : Fin 128 × Fin 128) :
    flat (crossed p) r z = if flat p r z = top p (ix3 r 0 0) then -1 else flat p r z := by
  unfold flat
  pointwise [crossed, atTop, k0_pay175, top]
  simp only [show Ideal.ofBits .f32 3212836864#32 = -1 from negOne.trans (by simp)]
  by_cases h : p (ix3 r z.1 z.2) = k0_pay174 p (ix3 r 0 0)
  · exact (if_pos h).trans (if_pos (show p (ix3 r z.1 z.2) = top p (ix3 r 0 0) from h)).symm
  · exact (if_neg h).trans (if_neg (show ¬p (ix3 r z.1 z.2) = top p (ix3 r 0 0) from h)).symm

theorem fifth_isFifth (p : FVec Ideal S16x128x128 .f32) (r : Fin 16) (hp : ∀ z, 0 ≤ flat p r z) (hp' : ∀ z, flat p r z < ⊤) :
    IsFifth (flat p r) (fifth p (ix3 r 0 0)) := by
  have h := rounds (by simp) hp hp' (top_isTop p r) (top_isTop (crossed p) r) (top_isTop (crossed (crossed p)) r)
    (top_isTop (crossed (crossed (crossed p))) r) (top_isTop (crossed (crossed (crossed (crossed p)))) r)
    (crossed_at p r) (crossed_at _ r) (crossed_at _ r) (crossed_at _ r)
  convert h using 1
  pointwise [fifth, five]
  simp only [topCount_at, show Ideal.ofBits .f32 1084227584#32 = ((5 : ℝ) : EReal) from Consts.five, ← EReal.coe_add, EReal.coe_le_coe_iff]
  norm_cast

/-- The mask of a row whose squared magnitudes are reals. -/
theorem kept_at (p : FVec Ideal S16x128x128 .f32) (r : Fin 16) (f : Fin 128 × Fin 128 → ℝ) (hf : ∀ z, 0 ≤ f z)
    (hp : ∀ z, flat p r z = ((f z : ℝ) : EReal)) :
    ∃ t : ℝ, IsFifth f t ∧ ∀ i s, kept p (ix3 r i s) = if t * (2097153 / 2097152) < f (i, s) then 1#1 else 0#1 := by
  have h := fifth_isFifth p r (fun z => by rw [hp]; exact EReal.coe_nonneg.2 (hf z)) (fun z => by rw [hp]; exact EReal.coe_lt_top _)
  rw [show flat p r = fun z => ((f z : ℝ) : EReal) from funext hp] at h
  obtain ⟨t, ht, h'⟩ := h.real (by simp)
  refine ⟨t, h', fun i s => ?_⟩
  have hz := hp (i, s)
  unfold flat at hz
  pointwise [kept]
  rw [hz, ht, mask_ofBool, show Ideal.ofBits .f32 889192448#32 = _ from margin, ← EReal.coe_one, ← EReal.coe_add, ← EReal.coe_mul]
  rw [show (1 + 1 / 2097152 : ℝ) = 2097153 / 2097152 by norm_num]
  by_cases hlt : t * (2097153 / 2097152) < f (i, s)
  · rw [if_pos hlt, if_pos (EReal.coe_lt_coe_iff.2 hlt)]
  · rw [if_neg hlt, if_neg fun h => hlt (EReal.coe_lt_coe_iff.1 h)]

end Cert.KernelIdeal.Hand
-- ==== Proof.Season.lean ====
/-
  The body's last stage at the ideal numbers: the kept bins, turned back to samples.
-/
module

public import proofs.«01_k».proof.Proof.Peaks

@[expose] public section

set_option maxRecDepth 100000

noncomputable section

namespace Cert.KernelIdeal.Hand

open Idealize.ShloMosaic Cert.KernelIdeal Cert.KernelIdeal.Gen Cert.Dft Cert.Consts Cert.Fifth

/-- The weight of a bin in the last stage: one where it is kept and is not the zero bin. -/
def weight (K : Fin 128 → Fin 128 → Prop) [∀ i s, Decidable (K i s)] (i s : Fin 128) : ℝ :=
  if K i s ∧ ¬(i.val = 0 ∧ s.val = 0) then 1 else 0

/-- One row of the last stage, before the closing product. -/
def stage (κ : Fin 128 → Fin 128 → ℝ) (V : ℕ → ℂ) (i : Fin 128) (b : Fin 256) : ℂ :=
  (∑ s : Fin 128, (κ i s : ℂ) * V (pos i + 128 * s) * (starRingEnd ℂ) (e 256 (s * b))) * (starRingEnd ℂ) (e 32768 (pos i * b))

theorem mask_weight (K : Fin 128 → Fin 128 → Prop) [∀ i s, Decidable (K i s)] (i s : Fin 128) (v : ℝ) :
    Scalar.select (IntOp.andi (if K i s then 1#1 else 0#1) (IntOp.xori (IntOp.andi (IntOp.cmpi .eq (BitVec.ofNat 32 i.val) 0#32)
      (IntOp.cmpi .eq (BitVec.ofNat 32 s.val) 0#32)) 1#1)) ((v : ℝ) : EReal) 0 = ((weight K i s * v : ℝ) : EReal) := by
  have hi := i.isLt
  have hs := s.isLt
  rw [eq_zero_mask (by omega), eq_zero_mask (by omega)]
  unfold weight
  by_cases h1 : K i s <;> by_cases h2 : i.val = 0 <;> by_cases h3 : s.val = 0 <;>
    simp [h1, h2, h3, IntOp.andi, IntOp.xori, Scalar.select]

section last

variable {v11 v13 : FVec Ideal S128x256 .f32} {v17 : FVec Ideal S128x512 .f32} {a b : FVec Ideal S16x128x128 .f32}
  {k : IVec S16x128x128 1} {r : Fin 16} {V : ℕ → ℂ} {K : Fin 128 → Fin 128 → Prop} [∀ i s, Decidable (K i s)]
  (t6 : ∀ (i : Fin 128) (b : Fin 256), v11 (ix2 i b) = ((C 32768 (pos i * b) : ℝ) : EReal))
  (t7 : ∀ (i : Fin 128) (b : Fin 256), v13 (ix2 i b) = ((-S 32768 (pos i * b) : ℝ) : EReal))
  (t9c : ∀ (s : Fin 128) (b : Fin 256), v17 (ix2 s ⟨b, by omega⟩) = ((C 256 (s * b) : ℝ) : EReal))
  (t9s : ∀ (s : Fin 128) (b : Fin 256), v17 (ix2 s ⟨256 + b, by omega⟩) = ((S 256 (s * b) : ℝ) : EReal))
  (ha : ∀ i s : Fin 128, a (ix3 r i s) = (((V (pos i + 128 * s)).re : ℝ) : EReal))
  (hb : ∀ i s : Fin 128, b (ix3 r i s) = (((V (pos i + 128 * s)).im : ℝ) : EReal))
  (hk : ∀ i s : Fin 128, k (ix3 r i s) = if K i s then 1#1 else 0#1)

include t6 t7 t9c t9s ha hb hk

theorem lastStage_re (i : Fin 128) (n : Fin 256) :
    lastStage v11 v13 v17 a b k (ix3 r ⟨i, by omega⟩ n) = (((stage (weight K) V i n).re : ℝ) : EReal) := by
  have h : r.val * 128 + i.val < 2048 := by omega
  pointwise [lastStage, k0_pay187, k0_pay186, k0_pay171]
  simp only [dif_pos h, ha, hb, hk, mask_weight K, t9c, t9s, t6, t7, ← EReal.coe_mul, sum_coe, ← EReal.coe_add, ← EReal.coe_sub]
  congr 1
  unfold stage
  rw [Complex.mul_re, Complex.re_sum, Complex.im_sum]
  simp only [Complex.mul_re, Complex.mul_im, Complex.ofReal_re, Complex.ofReal_im, Complex.conj_re, Complex.conj_im, e_re, e_im,
    ← Finset.sum_sub_distrib, ← Finset.sum_add_distrib]
  simp [Finset.sum_sub_distrib, Finset.sum_add_distrib, sub_eq_add_neg, mul_assoc]

theorem lastStage_im (i : Fin 128) (n : Fin 256) :
    lastStage v11 v13 v17 a b k (ix3 r ⟨128 + i, by omega⟩ n) = (((stage (weight K) V i n).im : ℝ) : EReal) := by
  have h : r.val * 128 + i.val < 2048 := by omega
  pointwise [lastStage, k0_pay187, k0_pay186, k0_pay171]
  simp only [dif_pos h, ha, hb, hk, mask_weight K, t9c, t9s, t6, t7, ← EReal.coe_mul, sum_coe, ← EReal.coe_add, ← EReal.coe_sub]
  congr 1
  unfold stage
  rw [Complex.mul_im, Complex.re_sum, Complex.im_sum]
  simp only [Complex.mul_re, Complex.mul_im, Complex.ofReal_re, Complex.ofReal_im, Complex.conj_re, Complex.conj_im, e_re, e_im,
    ← Finset.sum_sub_distrib, ← Finset.sum_add_distrib]
  simp [Finset.sum_sub_distrib, Finset.sum_add_distrib, sub_eq_add_neg, mul_assoc]
  ring

end last

theorem altTerm_at (n : FVec Ideal S16x1x1 .f32) (k : IVec S16x128x128 1) (r : Fin 16) (b : Fin 256) {l : ℝ} {K : Prop} [Decidable K]
    (hn : n (ix3 r 0 0) = ((l : ℝ) : EReal)) (hk : k (ix3 r 0 0) = if K then 1#1 else 0#1) :
    altTerm n k (ix3 r 0 b) = (((if K then 1 else 0) * l * (1 / 32768) * (-1) ^ b.val : ℝ) : EReal) := by
  pointwise [altTerm, k0_pay188, k0_pay166]
  rw [sign_at, hn, hk, show Ideal.ofBits .f32 939524096#32 = _ from invN]
  have hs : FloatOps.sitofp (F := Ideal) FTy.f32 (BitVec.setWidth 32 (if K then 1#1 else 0#1)) = ((if K then 1 else 0 : ℝ) : EReal) := by
    refine (Ideal.scalar_sitofp_def _).trans ?_
    split <;> simp
  rw [hs, ← EReal.coe_mul, ← EReal.coe_mul, ← EReal.coe_mul]

/-- A row's season: twice the mean of the turned-back bins, and the last bin's alternating term. -/
def seasonOf (y : Fin 128 → Fin 256 → ℝ) (K : Fin 128 → Fin 128 → Prop) [∀ i s, Decidable (K i s)] (a : Fin 128) (b : Fin 256) : ℝ :=
  2 * (1 / 32768) * (∑ i : Fin 128, stage (weight K) (X y) i b * (starRingEnd ℂ) (e 128 (a * pos i))).re
    + (if K 0 0 then 1 else 0) * last y * (1 / 32768) * (-1) ^ b.val

/-- The bins kept above the margin. -/
def Keep (y : Fin 128 → Fin 256 → ℝ) (t : ℝ) (i s : Fin 128) : Prop := t * (2097153 / 2097152) < Complex.normSq (X y (bin i s))

instance (y : Fin 128 → Fin 256 → ℝ) (t : ℝ) (i s : Fin 128) : Decidable (Keep y t i s) := Classical.dec _

section block

variable {x1 : Vec Ideal S144x128 .f32} {x2 x3 : Vec Ideal S72x256 .f32} {x4 x5 : Vec Ideal S1x256 .f32}
  {x6 x7 : Vec Ideal S128x256 .f32} {x8 : Vec Ideal S256x256 .f32} {x9 : Vec Ideal S128x512 .f32}
  {x10 : Vec Ideal S128x256 .f32} (T : Tables x1 x2 x3 x4 x5 x6 x7 x8 x9 x10)
  {x0 : Vec Ideal S16x128x256 .f32} {y : Fin 16 → Fin 128 → Fin 256 → ℝ}
  (hx : ∀ r a b, x0 (ix3 r a b) = ((y r a b : ℝ) : EReal))

include T hx

theorem keepB_at (r : Fin 16) :
    ∃ t : ℝ, IsFifth (fun z : Fin 128 × Fin 128 => Complex.normSq (X (y r) (bin z.1 z.2))) t
      ∧ ∀ i s, keepB x0 x1 x2 x3 x4 x5 x8 (ix3 r i s) = if Keep (y r) t i s then 1#1 else 0#1 := by
  obtain ⟨t, ht, hk⟩ := kept_at (powB x0 x1 x2 x3 x4 x5 x8) r (fun z => Complex.normSq (X (y r) (bin z.1 z.2)))
    (fun z => Complex.normSq_nonneg _) (fun z => powB_at T hx r z.1 z.2)
  refine ⟨t, ht, fun i s => (hk i s).trans ?_⟩
  unfold Keep
  congr 1

/-- A row of the block's season. -/
theorem seaB_at (r : Fin 16) :
    ∃ t : ℝ, IsFifth (fun z : Fin 128 × Fin 128 => Complex.normSq (X (y r) (bin z.1 z.2))) t
      ∧ ∀ a b, seaB x0 x1 x2 x3 x4 x5 x6 x7 x8 x9 x10 r (ix2 a b) = ((seasonOf (y r) (Keep (y r) t) a b : ℝ) : EReal) := by
  obtain ⟨t, ht, hk⟩ := keepB_at T hx r
  refine ⟨t, ht, fun a b => ?_⟩
  have hre := fun (i : Fin 128) (n : Fin 256) => lastStage_re (V := X (y r)) T.t6 T.t7 T.t9c T.t9s (wRe_at T hx r) (wIm_at T hx r) hk i n
  have him := fun (i : Fin 128) (n : Fin 256) => lastStage_im (V := X (y r)) T.t6 T.t7 T.t9c T.t9s (wRe_at T hx r) (wIm_at T hx r) hk i n
  have hal := altTerm_at (nB x0 x1) (keepB x0 x1 x2 x3 x4 x5 x8) r b (nB_at T hx r) (hk 0 0)
  unfold seaB
  generalize hH : hB x0 x1 x2 x3 x4 x5 x6 x7 x8 x9 = H
  generalize hA : aB x0 x1 x2 x3 x4 x5 x8 = A
  unfold hB at hH
  unfold aB at hA
  rw [hH] at hre him
  rw [hA] at hal
  pointwise [season, hRow, nRow]
  rw [hal, show Ideal.ofBits .f32 1073741824#32 = _ from Consts.two, show Ideal.ofBits .f32 939524096#32 = _ from invN]
  rw [show (∑ x : Fin 256, x10 (ix2 a x) * H (ix3 r x b))
      = ∑ i : Fin 128, x10 (ix2 a ⟨i, by omega⟩) * H (ix3 r ⟨i, by omega⟩ b) + ∑ i : Fin 128, x10 (ix2 a ⟨128 + i, by omega⟩) * H (ix3 r ⟨128 + i, by omega⟩ b)
    from Fin.sum_univ_add (a := 128) (b := 128) fun x : Fin 256 => x10 (ix2 a x) * H (ix3 r x b)]
  simp only [hre, him, T.t10c, T.t10s, ← EReal.coe_mul, sum_coe, ← EReal.coe_add]
  congr 1
  unfold seasonOf
  rw [Complex.re_sum]
  simp only [Complex.mul_re, Complex.conj_re, Complex.conj_im, e_re, e_im, Finset.sum_sub_distrib]
  simp [mul_comm, sub_eq_add_neg]

end block

end Cert.KernelIdeal.Hand
-- ==== Proof.Arrays.lean ====
/-
  The kernel's two arrays, entry by entry: each block of sixteen rows is what its grid point writes.
-/
module

public import proofs.«01_k».proof.Proof.Tables
public import proofs.«01_k».proof.Proof.Season

@[expose] public section

set_option maxRecDepth 100000

noncomputable section

namespace Cert.KernelIdeal.Hand

open Idealize.ShloMosaic Idealize.ShloMosaic.Pipeline Idealize.ShloMosaic.TcCoe Cert.KernelIdeal Cert.KernelIdeal.Gen Cert.KernelIdeal.Value Cert.Dft Cert.Consts Cert.Fifth

variable (m : (ℓ : Loc nD τ sig) → Buf (Elt Ideal) ℓ)

theorem idx0 : ∀ t : Fin cfg0.N, win0_0.index t 0 = t.val :=
  (by decide +kernel : ∀ t : Fin grid0.N, win0_0.index t 0 = t.val)

theorem idx11 : ∀ t : Fin cfg0.N, win0_11.index t 0 = t.val :=
  (by decide +kernel : ∀ t : Fin grid0.N, win0_11.index t 0 = t.val)

theorem idx12 : ∀ t : Fin cfg0.N, win0_12.index t 0 = t.val :=
  (by decide +kernel : ∀ t : Fin grid0.N, win0_12.index t 0 = t.val)

theorem flush11 : ∀ t : Fin cfg0.N, (cfg0.win 11).flush t = true :=
  (by decide +kernel : ∀ t : Fin grid0.N, win0_11.flush t = true)

theorem flush12 : ∀ t : Fin cfg0.N, (cfg0.win 12).flush t = true :=
  (by decide +kernel : ∀ t : Fin grid0.N, win0_12.flush t = true)

theorem V155 (c : Dev nD) (R a : Fin 128) (b : Fin 256) :
    V m c main_v155 (ix3 R a b) = m ((c : Thread nD τ).loc main_arg0) (ix2 R ⟨256 * a + b, by omega⟩) := by
  show StableHlo.after (List.flatten [hostOps0, hostOps0_1, hostOps0_2, hostOps0_3, hostOps0_4]) (fun b => m (c, b)) _ _ = _
  simp only [hostOps0, hostOps0_1, hostOps0_2, hostOps0_3, hostOps0_4, List.flatten_cons, List.flatten_nil, List.append_nil, List.cons_append, List.nil_append]
  after_reads_simp
  pointwise
  exact congrArg (fun k : Fin 32768 => m ((c : Thread nD τ).loc main_arg0) (ix2 R k)) (Fin.ext (show a.val * 256 + b.val = 256 * a.val + b.val by omega))

theorem blk0 (c : Dev nD) (t : Fin 8) (r : Fin 16) (a : Fin 128) (b : Fin 256) :
    iblk m c 0 t (ix3 r a b) = V m c main_v155 (ix3 ⟨16 * t + r, by omega⟩ a b) := by
  blk_point [iblk, V, idx0 t, show win0_0.index t 1 = 0 from rfl, show win0_0.index t 2 = 0 from rfl]

theorem arr11 (c : Dev nD) (t : Fin 8) (r : Fin 16) (a : Fin 128) (b : Fin 256) :
    (dats m 0 c).arrAt 11 cfg0.N (ix3 ⟨16 * t + r, by omega⟩ a b)
      = seaB (iblk m c 0 t) (iblk m c 1 t) (iblk m c 2 t) (iblk m c 3 t) (iblk m c 4 t) (iblk m c 5 t) (iblk m c 6 t) (iblk m c 7 t)
        (iblk m c 8 t) (iblk m c 9 t) (iblk m c 10 t) r (ix2 a b) := by
  have h := congrFun ((blocks11 m c t (flush11 t)).trans (flushed11_A m c t)) (ix3 r a b)
  rw [out_season] at h
  refine Eq.trans ?_ h
  generalize (dats m 0 c).arrAt 11 cfg0.N = G
  blk_ext [idx11 t, show win0_11.index t 1 = 0 from rfl, show win0_11.index t 2 = 0 from rfl]

theorem arr12 (c : Dev nD) (t : Fin 8) (r : Fin 16) (a : Fin 128) (b : Fin 256) :
    (dats m 0 c).arrAt 12 cfg0.N (ix3 ⟨16 * t + r, by omega⟩ a b)
      = FloatOps.subf (iblk m c 0 t (ix3 r a b)) (seaB (iblk m c 0 t) (iblk m c 1 t) (iblk m c 2 t) (iblk m c 3 t) (iblk m c 4 t) (iblk m c 5 t) (iblk m c 6 t) (iblk m c 7 t)
        (iblk m c 8 t) (iblk m c 9 t) (iblk m c 10 t) r (ix2 a b)) := by
  have h := congrFun ((blocks12 m c t (flush12 t)).trans (flushed12_A m c t)) (ix3 r a b)
  rw [out_trend] at h
  refine Eq.trans ?_ h
  generalize (dats m 0 c).arrAt 12 cfg0.N = G
  blk_ext [idx12 t, show win0_12.index t 1 = 0 from rfl, show win0_12.index t 2 = 0 from rfl]

end Cert.KernelIdeal.Hand
-- ==== Proof.Equation.lean ====
/-
  The equation: the kernel's season of a row is the reference's, where no bin lies in the guard band above the threshold.
-/
module

public import proofs.«01_k».proof.Proof.Season

@[expose] public section

noncomputable section

namespace Cert.Equation

open Cert.Dft Cert.Fifth Cert.KernelIdeal.Hand

/-- The reference's magnitudes: the zero bin's is zero. -/
def mag (y : Fin 128 → Fin 256 → ℝ) (k : Fin 16385) : ℝ := if k.val = 0 then 0 else Real.sqrt (Complex.normSq (X y k))

/-- The weight of a bin in the inverse transform. -/
def share (k : ℕ) : ℝ := if k = 0 ∨ k = 16384 then 1 / 32768 else 1 / 16384

/-- The reference's season of a row at sample `n`. -/
def refSeason (y : Fin 128 → Fin 256 → ℝ) (θ : ℝ) (n : ℕ) : ℝ :=
  ∑ k : Fin 16385, share k * (if mag y k ≤ θ then 0 else (X y k).re) * C 32768 (n * k)
    - ∑ k : Fin 16385, share k * (if mag y k ≤ θ then 0 else (X y k).im) * S 32768 (n * k)

section row

variable {y : Fin 128 → Fin 256 → ℝ} {t θ : ℝ}

/-- The bin read at a place of the kernel's array, as a bin of the reference. -/
def place (z : Fin 128 × Fin 128) : Fin 16385 := ⟨bin z.1 z.2, by
  have h := (binEquiv z).isLt
  rw [show (binEquiv z).val = pos z.1 + 128 * z.2 from binEquiv_val z.1 z.2] at h
  unfold bin
  split <;> omega⟩

theorem line_eq_zero (i s : Fin 128) : pos i + 128 * s.val = 0 ↔ i.val = 0 ∧ s.val = 0 := by
  have := pos_eq_zero i.isLt
  omega

theorem place_ne_zero (z : Fin 128 × Fin 128) : (place z).val ≠ 0 := by
  show bin z.1 z.2 ≠ 0
  unfold bin
  split
  case isTrue => norm_num
  case isFalse h => exact fun h0 => h ((line_eq_zero z.1 z.2).1 h0)

theorem place_injective : Function.Injective place := by
  intro z z' h
  have hv : bin z.1 z.2 = bin z'.1 z'.2 := congrArg Fin.val h
  have b := (binEquiv z).isLt
  have b' := (binEquiv z').isLt
  rw [show (binEquiv z).val = pos z.1 + 128 * z.2 from binEquiv_val z.1 z.2] at b
  rw [show (binEquiv z').val = pos z'.1 + 128 * z'.2 from binEquiv_val z'.1 z'.2] at b'
  unfold bin at hv
  by_cases h1 : z.1.val = 0 ∧ z.2.val = 0 <;> by_cases h2 : z'.1.val = 0 ∧ z'.2.val = 0
  · exact Prod.ext (Fin.ext (h1.1.trans h2.1.symm)) (Fin.ext (h1.2.trans h2.2.symm))
  · rw [if_pos h1, if_neg h2] at hv; omega
  · rw [if_neg h1, if_pos h2] at hv; omega
  · rw [if_neg h1, if_neg h2] at hv
    exact binEquiv.injective (Fin.ext hv)

theorem place_surjective (k : Fin 16385) (hk : k.val ≠ 0) : ∃ z, place z = k := by
  by_cases h : k.val = 16384
  · exact ⟨(0, 0), Fin.ext (by rw [h]; rfl)⟩
  · have hb := k.isLt
    have hz := congrArg Fin.val (binEquiv.apply_symm_apply ⟨k.val, by omega⟩)
    generalize binEquiv.symm ⟨k.val, by omega⟩ = z at hz
    rw [show (binEquiv z).val = pos z.1 + 128 * z.2 from binEquiv_val z.1 z.2] at hz
    refine ⟨z, Fin.ext ?_⟩
    show bin z.1 z.2 = k.val
    unfold bin
    rw [if_neg fun h0 => hk (by rw [← hz]; exact (line_eq_zero z.1 z.2).2 h0)]
    exact hz

theorem mag_place (z : Fin 128 × Fin 128) : mag y (place z) = Real.sqrt (Complex.normSq (X y (bin z.1 z.2))) :=
  if_neg (place_ne_zero z)

theorem mag_zero {k : Fin 16385} (h : k.val = 0) : mag y k = 0 := if_pos h

theorem mag_nonneg (k : Fin 16385) : 0 ≤ mag y k := by
  unfold mag
  split
  · exact le_rfl
  · exact Real.sqrt_nonneg _

theorem threshold_nonneg (h : IsFifth (mag y) θ) : 0 ≤ θ := by
  by_contra hlt
  push Not at hlt
  have h4 := h.above
  rw [Finset.filter_true_of_mem fun k _ => lt_of_lt_of_le hlt (mag_nonneg k)] at h4
  simp at h4

/-- The fifth largest squared magnitude is the square of the fifth largest magnitude. -/
theorem threshold_sq (ht : IsFifth (fun z : Fin 128 × Fin 128 => Complex.normSq (X y (bin z.1 z.2))) t) (hθ : IsFifth (mag y) θ) :
    t = θ * θ := by
  have h0 := threshold_nonneg hθ
  refine ht.unique ⟨?_, ?_⟩
  · refine le_trans (Finset.card_le_card_of_injOn place (fun z hz => ?_) place_injective.injOn) hθ.above
    have hz' := (Finset.mem_filter.1 hz).2
    refine Finset.mem_coe.2 (Finset.mem_filter.2 ⟨Finset.mem_univ _, ?_⟩)
    rw [mag_place]
    exact Real.lt_sqrt_of_sq_lt (by rw [sq]; exact hz')
  · rcases h0.lt_or_eq with hpos | hzero
    · refine le_trans hθ.notBelow (le_trans (Finset.card_le_card (fun k hk => ?_)) (Finset.card_image_le (f := place)))
      have hk' := (Finset.mem_filter.1 hk).2
      obtain ⟨z, rfl⟩ := place_surjective k fun h => by
        rw [show mag y k = 0 from if_pos h] at hk'
        linarith
      refine Finset.mem_image.2 ⟨z, Finset.mem_filter.2 ⟨Finset.mem_univ _, ?_⟩, rfl⟩
      rw [mag_place] at hk'
      rw [← sq]
      exact (Real.le_sqrt h0 (Complex.normSq_nonneg _)).1 hk'
    · rw [Finset.filter_true_of_mem fun z _ => by rw [← hzero, mul_zero]; exact Complex.normSq_nonneg _]
      simp

/-- A bin is kept by the kernel exactly where the reference keeps it. -/
theorem keep_iff (ht : IsFifth (fun z : Fin 128 × Fin 128 => Complex.normSq (X y (bin z.1 z.2))) t) (hθ : IsFifth (mag y) θ)
    (hsep : ∀ k : Fin 16385, mag y k ≤ θ ∨ θ * θ * (2097153 / 2097152) < mag y k * mag y k) (i s : Fin 128) :
    Keep y t i s ↔ ¬ mag y (place (i, s)) ≤ θ := by
  have h0 := threshold_nonneg hθ
  have hm := mag_place (y := y) (i, s)
  have hsq : mag y (place (i, s)) * mag y (place (i, s)) = Complex.normSq (X y (bin i s)) := by
    rw [hm]
    exact Real.mul_self_sqrt (Complex.normSq_nonneg _)
  have hmag := mag_nonneg (y := y) (place (i, s))
  unfold Keep
  rw [threshold_sq ht hθ, ← hsq]
  constructor
  · intro hk hle
    have : mag y (place (i, s)) * mag y (place (i, s)) ≤ θ * θ := mul_le_mul hle hle hmag h0
    nlinarith [mul_nonneg h0 h0]
  · intro hk
    exact (hsep _).resolve_left hk

/-- The kept bins' weight, by the bin. -/
def taken (y : Fin 128 → Fin 256 → ℝ) (θ : ℝ) (k : ℕ) : ℝ :=
  if h : k < 16385 then (if mag y ⟨k, h⟩ ≤ θ then 0 else 1) else 0

theorem weight_taken (ht : IsFifth (fun z : Fin 128 × Fin 128 => Complex.normSq (X y (bin z.1 z.2))) t) (hθ : IsFifth (mag y) θ)
    (hsep : ∀ k : Fin 16385, mag y k ≤ θ ∨ θ * θ * (2097153 / 2097152) < mag y k * mag y k) (i s : Fin 128) :
    weight (Keep y t) i s = taken y θ (pos i + 128 * s) := by
  have b := (binEquiv (i, s)).isLt
  rw [binEquiv_val] at b
  unfold weight taken
  rw [dif_pos (by omega)]
  by_cases hz : i.val = 0 ∧ s.val = 0
  · rw [if_neg fun h => h.2 hz, if_pos]
    rw [mag_zero ((line_eq_zero i s).2 hz)]
    exact threshold_nonneg hθ
  · have hp : place (i, s) = ⟨pos i + 128 * s, by omega⟩ := Fin.ext (if_neg hz)
    have hk := keep_iff ht hθ hsep i s
    rw [hp] at hk
    by_cases hle : mag y ⟨pos i + 128 * s, by omega⟩ ≤ θ
    · rw [if_pos hle, if_neg fun h => hk.1 h.1 hle]
    · rw [if_neg hle, if_pos ⟨hk.2 hle, hz⟩]

theorem turned (V : ℂ) (k n : ℕ) : (V * (starRingEnd ℂ) (e 32768 (k * n))).re = V.re * C 32768 (n * k) - V.im * S 32768 (n * k) := by
  rw [Nat.mul_comm k n, Complex.mul_re, Complex.conj_re, Complex.conj_im, e_re, e_im]
  ring

theorem C_half (n : ℕ) : C 32768 (n * 16384) = (-1) ^ n := by
  have h := congrArg Complex.re (e_half n)
  rw [e_re, Complex.ofReal_re, Nat.mul_comm] at h
  exact h

/-- The season of a row: the kernel's and the reference's. -/
theorem season_eq (ht : IsFifth (fun z : Fin 128 × Fin 128 => Complex.normSq (X y (bin z.1 z.2))) t) (hθ : IsFifth (mag y) θ)
    (hsep : ∀ k : Fin 16385, mag y k ≤ θ ∨ θ * θ * (2097153 / 2097152) < mag y k * mag y k) (a : Fin 128) (b : Fin 256) :
    seasonOf y (Keep y t) a b = refSeason y θ (256 * a + b) := by
  generalize hn : 256 * a.val + b.val = n
  have hbody : (∑ i : Fin 128, stage (weight (Keep y t)) (X y) i b * (starRingEnd ℂ) (e 128 (a * pos i))).re
      = ∑ k : Fin 16384, taken y θ k * ((X y k).re * C 32768 (n * k) - (X y k).im * S 32768 (n * k)) := by
    have hi := inverse (fun i s => taken y θ (pos i + 128 * s)) (X y) a b
    unfold stage
    simp only [weight_taken ht hθ hsep]
    rw [hi, Complex.re_sum, ← sum_bins fun k => taken y θ k * ((X y k).re * C 32768 (n * k) - (X y k).im * S 32768 (n * k))]
    refine Finset.sum_congr rfl fun i _ => ?_
    rw [Complex.re_sum]
    refine Finset.sum_congr rfl fun s _ => ?_
    rw [Complex.re_ofReal_mul, turned, hn]
  have hkeep : (if Keep y t 0 0 then (1 : ℝ) else 0) = taken y θ 16384 := by
    have hk := keep_iff ht hθ hsep 0 0
    unfold taken
    rw [dif_pos (by norm_num)]
    have hp : place (0, 0) = ⟨16384, by norm_num⟩ := rfl
    rw [hp] at hk
    by_cases hle : mag y ⟨16384, by norm_num⟩ ≤ θ
    · rw [if_pos hle, if_neg fun h => hk.1 h hle]
    · rw [if_neg hle, if_pos (hk.2 hle)]
  have hterm : ∀ k : Fin 16385, share k * (if mag y k ≤ θ then 0 else (X y k).re) * C 32768 (n * k)
      - share k * (if mag y k ≤ θ then 0 else (X y k).im) * S 32768 (n * k)
      = share k * (taken y θ k * ((X y k).re * C 32768 (n * k) - (X y k).im * S 32768 (n * k))) := by
    intro k
    unfold taken
    rw [dif_pos k.isLt]
    by_cases hle : mag y k ≤ θ
    · rw [if_pos hle, if_pos hle, if_pos hle]; ring
    · rw [if_neg hle, if_neg hle, if_neg hle]; ring
  have hsign : (-1 : ℝ) ^ b.val = (-1) ^ n := by
    rw [← hn, pow_add, Even.neg_one_pow (n := 256 * a.val) ⟨128 * a.val, by ring⟩, one_mul]
  unfold seasonOf refSeason
  rw [hbody, hkeep, ← Finset.sum_sub_distrib, Finset.sum_congr rfl fun k _ => hterm k, Fin.sum_univ_castSucc (n := 16384), Finset.mul_sum, hsign]
  refine congrArg₂ (· + ·) ?_ ?_
  · refine Finset.sum_congr rfl fun k _ => ?_
    have hlt := k.isLt
    rw [Fin.val_castSucc]
    by_cases h0 : k.val = 0
    · have : taken y θ k = 0 := by
        unfold taken
        rw [dif_pos (by omega), if_pos]
        rw [mag_zero h0]
        exact threshold_nonneg hθ
      rw [this]
      ring
    · unfold share
      rw [if_neg (by omega)]
      ring
  · show _ = share 16384 * (taken y θ 16384 * ((X y 16384).re * C 32768 (n * 16384) - (X y 16384).im * S 32768 (n * 16384)))
    rw [X_last, Complex.ofReal_re, Complex.ofReal_im, C_half, show share 16384 = 1 / 32768 from if_pos (.inr rfl)]
    ring

end row

end Cert.Equation
-- ==== Proof.Reference.lean ====
/-
  What the reference computes, step by step.
-/
module

public import proofs.«01_k».proof.Proof.Gen.ReferenceIdeal.Run
public import proofs.«01_k».proof.Proof.Equation
public import proofs.«01_k».proof.Proof.Angle
public import proofs.«01_k».proof.Proof.Fifth
public import Idealize.ShloMosaic.Lib.SortFacts

@[expose] public section

noncomputable section

namespace Cert.ReferenceIdeal.Hand

open Idealize.ShloMosaic Idealize.ShloMosaic.TcCoe Cert.ReferenceIdeal Cert.ReferenceIdeal.Gen Cert.Dft Cert.Consts Cert.Fifth Cert.Angle Cert.Equation

section steps

variable {F : FTy → Type} [FloatOps F]

/-- The angle of every sample and bin. -/
def angles : FVec F S32768x16385 .f32 :=
  mulf (sitofp .f32 (Host.remsi (muli (iotaInDim S32768x16385 32 0) (iotaInDim S32768x16385 32 1))
      (broadcastInDim S32768x16385 ![] bcast_S_S32768x16385 (constantI S_ 32 32768#32))))
    (broadcastInDim S32768x16385 ![] bcast_S_S32768x16385 (mulf (Host.acos (constant S_ .f32 0xBF800000#32)) (constant S_ .f32 0x38800000#32)))

def cosT : FVec F S32768x16385 .f32 := Host.cos angles

def sinT : FVec F S32768x16385 .f32 := Host.sin angles

variable (x : FVec F S128x32768 .f32)

def reR : FVec F S128x16385 .f32 := Host.dotGeneral dot_S128x32768_S32768x16385_S128x16385_1_0_0_1_n_n (some .fp32) x cosT

def imR : FVec F S128x16385 .f32 := Host.negf (Host.dotGeneral dot_S128x32768_S32768x16385_S128x16385_1_0_0_1_n_n (some .fp32) x sinT)

def zeros : FVec F S128x16385 .f32 := broadcastInDim S128x16385 ![] bcast_S_S128x16385 (id (constant S_ .f32 0x00000000#32))

/-- The magnitudes, the zero bin's set to zero. -/
def freq : FVec F S128x16385 .f32 :=
  select (cmpi .eq (iotaInDim S128x16385 32 1) (broadcastInDim S128x16385 ![] bcast_S_S128x16385 (constantI S_ 32 0#32))) zeros
    (Host.sqrt (addf (mulf (reR x) (reR x)) (mulf (imR x) (imR x))))

def topFive (f : FVec F S128x16385 .f32) : FVec F S128x5 .f32 := (Host.topK S128x5 1 (FloatOps.cmpfTotal .gt) f sliceFits_S128x16385_S128x5).1

/-- The fifth largest magnitude of each row. -/
def threshold (f : FVec F S128x16385 .f32) : FVec F S128x1 .f32 :=
  broadcastInDim S128x1 ![0] bcast_S128_S128x1_0
    (Host.reduce FloatOps.minimumf (topFive f) (constant S_ .f32 0x7F800000#32) reducesTo_S128x5_S128_d1 h_S_)

def masked (f : FVec F S128x16385 .f32) : IVec S128x16385 1 :=
  cmpf .ole f (broadcastInDim S128x16385 ![0, 1] bcast_S128x1_S128x16385_0_1 (threshold f))

/-- The weight of each bin in the inverse transform. -/
def shares : FVec F S128x16385 .f32 :=
  broadcastInDim S128x16385 ![0, 1] bcast_S1x16385_S128x16385_0_1
    (select (ori (cmpi .eq (iotaInDim S1x16385 32 1) (broadcastInDim S1x16385 ![] bcast_S_S1x16385 (constantI S_ 32 0#32)))
        (cmpi .eq (iotaInDim S1x16385 32 1) (broadcastInDim S1x16385 ![] bcast_S_S1x16385 (constantI S_ 32 16384#32))))
      (broadcastInDim S1x16385 ![] bcast_S_S1x16385 (constant S_ .f32 0x38000000#32))
      (broadcastInDim S1x16385 ![] bcast_S_S1x16385 (constant S_ .f32 0x38800000#32)))

def back (v : FVec F S128x16385 .f32) (t : FVec F S32768x16385 .f32) : FVec F S128x32768 .f32 :=
  Host.dotGeneral dot_S128x16385_S16385x32768_S128x32768_1_0_0_1_n_n (some .fp32) (mulf shares v)
    (transpose S16385x32768 [1, 0] t transposes_S32768x16385_S16385x32768_1_0)

/-- The season, sample by sample. -/
def season : FVec F S128x32768 .f32 :=
  subf (back (select (masked (freq x)) zeros (reR x)) cosT) (back (select (masked (freq x)) zeros (imR x)) sinT)

variable (m : (ℓ : Loc nD τ sig) → Buf (Elt F) ℓ) (c : Dev nD)

theorem season_res : Value.res_main_v58 m c
    = shapeCast S128x128x256 (season (m ((c.tc : Thread nD τ).loc main_arg0))) shapeCasts_S128x32768_S128x128x256 := rfl

theorem trend_res : Value.res_main_v59 m c
    = shapeCast S128x128x256 (subf (m ((c.tc : Thread nD τ).loc main_arg0)) (season (m ((c.tc : Thread nD τ).loc main_arg0))))
      shapeCasts_S128x32768_S128x128x256 := rfl

end steps

/-- A sum over the samples, split as the kernel splits it. -/
theorem sum_samples {M : Type} [AddCommMonoid M] (f : Fin 32768 → M) :
    ∑ n, f n = ∑ a : Fin 128, ∑ b : Fin 256, f ⟨256 * a + b, by omega⟩ := by
  rw [← Fintype.sum_prod_type' (fun (a : Fin 128) (b : Fin 256) => f ⟨256 * a + b, by omega⟩),
    ← (finProdFinEquiv (m := 128) (n := 256)).sum_comp f]
  refine Finset.sum_congr rfl fun z _ => congrArg f (Fin.ext ?_)
  show z.2.val + 256 * z.1.val = 256 * z.1.val + z.2.val
  omega

theorem word_eq_mask {n k : ℕ} (hn : n < 2 ^ 32) (hk : k < 2 ^ 32) :
    IntOp.cmpi .eq (BitVec.ofNat 32 n) (BitVec.ofNat 32 k) = if n = k then 1#1 else 0#1 := by
  by_cases h : n = k
  · rw [if_pos h, h]
    show BitVec.ofBool (BitVec.ofNat 32 k == BitVec.ofNat 32 k) = 1#1
    rw [beq_self_eq_true]
    rfl
  · rw [if_neg h]
    show BitVec.ofBool (BitVec.ofNat 32 n == BitVec.ofNat 32 k) = 0#1
    rw [beq_eq_false_iff_ne.2 fun he => h ?_]
    · rfl
    · have hw := congrArg BitVec.toNat he
      rwa [BitVec.toNat_ofNat, BitVec.toNat_ofNat, Nat.mod_eq_of_lt hn, Nat.mod_eq_of_lt hk] at hw

theorem or_mask {P Q : Prop} [Decidable P] [Decidable Q] :
    IntOp.ori (if P then 1#1 else 0#1) (if Q then 1#1 else 0#1) = if P ∨ Q then 1#1 else 0#1 := by
  by_cases p : P <;> by_cases q : Q <;> simp only [p, q, if_true, if_false, or_self, or_true, true_or, or_false] <;> rfl

theorem angle_lt (n : Fin 32768) (k : Fin 16385) : n.val * k.val < 2147483648 := by
  have h := Nat.mul_le_mul (show n.val ≤ 32767 by omega) (show k.val ≤ 16384 by omega)
  omega

theorem cosT_at (n : Fin 32768) (k : Fin 16385) : cosT (F := Ideal) (ix2 n k) = ((C 32768 (n * k) : ℝ) : EReal) := by
  have h := angle_lt n k
  pointwise [cosT, angles]
  rw [word_mul]
  exact cosN _ h

theorem sinT_at (n : Fin 32768) (k : Fin 16385) : sinT (F := Ideal) (ix2 n k) = ((S 32768 (n * k) : ℝ) : EReal) := by
  have h := angle_lt n k
  pointwise [sinT, angles]
  rw [word_mul]
  exact sinN _ h

theorem shares_at (R : Fin 128) (k : Fin 16385) : shares (F := Ideal) (ix2 R k) = ((share k : ℝ) : EReal) := by
  have hk := k.isLt
  pointwise [shares]
  rw [eq_zero_mask (by omega), word_eq_mask (by omega) (by omega), or_mask, select_ite,
    show Ideal.ofBits .f32 939524096#32 = _ from invN, show Ideal.ofBits .f32 947912704#32 = _ from twoInvN, ← apply_ite Real.toEReal]
  rfl

section row

variable {x : FVec Ideal S128x32768 .f32} {R : Fin 128} {y : Fin 128 → Fin 256 → ℝ}
  (hx : ∀ (a : Fin 128) (b : Fin 256), x (ix2 R ⟨256 * a + b, by omega⟩) = ((y a b : ℝ) : EReal))

include hx

theorem reR_at (k : Fin 16385) : reR x (ix2 R k) = (((X y k).re : ℝ) : EReal) := by
  have h : reR x (ix2 R k) = ∑ n : Fin 32768, x (ix2 R n) * cosT (F := Ideal) (ix2 n k) := by
    pointwise [reR]
  rw [h, sum_samples]
  simp only [cosT_at, hx, ← EReal.coe_mul, sum_coe]
  refine congrArg Real.toEReal ?_
  unfold X
  rw [Complex.re_sum]
  refine Finset.sum_congr rfl fun a _ => ?_
  rw [Complex.re_sum]
  refine Finset.sum_congr rfl fun b _ => ?_
  rw [Complex.re_ofReal_mul, e_re, Nat.mul_comm]

theorem imR_at (k : Fin 16385) : imR x (ix2 R k) = (((X y k).im : ℝ) : EReal) := by
  have h : imR x (ix2 R k) = -∑ n : Fin 32768, x (ix2 R n) * sinT (F := Ideal) (ix2 n k) := by
    pointwise [imR]
  rw [h, sum_samples]
  simp only [sinT_at, hx, ← EReal.coe_mul, sum_coe]
  rw [← EReal.coe_neg]
  refine congrArg Real.toEReal ?_
  unfold X
  rw [Complex.im_sum, ← Finset.sum_neg_distrib]
  refine Finset.sum_congr rfl fun a _ => ?_
  rw [Complex.im_sum, ← Finset.sum_neg_distrib]
  refine Finset.sum_congr rfl fun b _ => ?_
  rw [Complex.im_ofReal_mul, e_im, Nat.mul_comm (256 * a.val + b.val)]
  ring

theorem freq_at (k : Fin 16385) : freq x (ix2 R k) = ((mag y k : ℝ) : EReal) := by
  have hk := k.isLt
  have hr := reR_at hx k
  have hi := imR_at hx k
  pointwise [freq, zeros]
  rw [hr, hi, eq_zero_mask (by omega), select_ite, ← EReal.coe_mul, ← EReal.coe_mul, ← EReal.coe_add, ← Complex.normSq_apply]
  rw [show id (constant (F := Ideal) S_ .f32 0#32) ix0 = ((0 : ℝ) : EReal) from zero, Ideal.sqrt_coe,
    if_neg (not_lt.2 (Complex.normSq_nonneg _)), ← apply_ite Real.toEReal]
  rfl

end row

theorem along_ix2 (R : Fin 128) (j k : Fin 16385) : Shape.Idx.along (s := S128x16385) (ix2 R j) (1 : Fin 2) k = ix2 R k := by
  funext d
  match d with
  | ⟨0, _⟩ => rfl
  | ⟨1, _⟩ => rfl

/-- The first five columns of a row sorted downwards. -/
theorem topFive_at (f : FVec Ideal S128x16385 .f32) (R : Fin 128) : ∃ σ : Fin 16385 → Fin 16385, Function.Bijective σ
    ∧ (∀ i j : Fin 16385, i < j → f (ix2 R (σ j)) ≤ f (ix2 R (σ i))) ∧ ∀ j : Fin 5, topFive f (ix2 R j) = f (ix2 R (σ ⟨j, by omega⟩)) := by
  let before : Fin 16385 → Fin 16385 → Bool := fun k k' => decide (f (ix2 R k') < f (ix2 R k))
  refine ⟨sortedFrom before, ⟨sortedFrom_injective _, sortedFrom_surjective _⟩, fun i j hij => ?_, fun j => ?_⟩
  · have h := sortedFrom_noInversion before before (fun a b h => decide_eq_false (not_lt.2 (of_decide_eq_true h).le))
      (fun _ _ h => h)
      (fun a b c h h' => decide_eq_false (not_lt.2 ((not_lt.1 (of_decide_eq_false h)).trans (not_lt.1 (of_decide_eq_false h'))))) i j hij
    exact not_lt.1 (of_decide_eq_false h)
  · have h : topFive f (ix2 R j) = (Host.sort2 S128x16385 1 (fun l r => FloatOps.cmpfTotal CmpDirection.gt l.1 r.1) f
        (fun i => if hd : 1 < S128x16385.rank then iotaInDim S128x16385 32 ⟨1, hd⟩ i else 0#32)).1 (ix2 R ⟨j, by omega⟩) := by
      unfold topFive Host.topK
      dsimp only
      generalize (Host.sort2 S128x16385 1 (fun l r => FloatOps.cmpfTotal CmpDirection.gt l.1 r.1) f
        (fun i => if hd : 1 < S128x16385.rank then iotaInDim S128x16385 32 ⟨1, hd⟩ i else 0#32)).1 = g
      pointwise
    rw [h]
    unfold Host.sort2
    rw [dif_pos (show 1 < S128x16385.rank by decide)]
    show f ((ix2 R ⟨j, by omega⟩ : S128x16385.Idx).along (1 : Fin 2) (sortedFrom (n := 16385) (fun k k' =>
      Ideal.cmpTotal .gt (f ((ix2 R ⟨j, by omega⟩ : S128x16385.Idx).along (1 : Fin 2) k))
        (f ((ix2 R ⟨j, by omega⟩ : S128x16385.Idx).along (1 : Fin 2) k')) == 1#1) ⟨j, by omega⟩)) = _
    simp only [along_ix2]
    refine congrArg f (congrArg (ix2 R) ?_)
    refine congrArg (fun b => sortedFrom b _) (funext fun k => funext fun k' => ?_)
    show (BitVec.ofBool (decide (f (ix2 R k') < f (ix2 R k))) == 1#1) = decide (f (ix2 R k') < f (ix2 R k))
    cases decide (f (ix2 R k') < f (ix2 R k)) <;> rfl

theorem fold_min_bottom {ι : Type} [Fintype ι] [Nonempty ι] (f : ι → EReal) :
    (∀ x, Finset.fold min ⊤ f Finset.univ ≤ f x) ∧ ∃ x, Finset.fold min ⊤ f Finset.univ = f x := by
  refine ⟨fun x => (Finset.fold_min_le _).2 (.inr ⟨x, Finset.mem_univ x, le_rfl⟩), ?_⟩
  obtain ⟨x, _, hx⟩ := Finset.exists_min_image Finset.univ f Finset.univ_nonempty
  exact ⟨x, le_antisymm ((Finset.fold_min_le _).2 (.inr ⟨x, Finset.mem_univ x, le_rfl⟩))
    ((Finset.le_fold_min _).2 ⟨le_top, fun z hz => hx z hz⟩)⟩

theorem threshold_isFifth (f : FVec Ideal S128x16385 .f32) (R : Fin 128) : IsFifth (fun k : Fin 16385 => f (ix2 R k)) (threshold f (ix2 R 0)) := by
  have h : threshold f (ix2 R 0) = Finset.fold min ⊤ (fun j : Fin 5 => topFive f (ix2 R j)) Finset.univ := by
    pointwise [threshold]
    rw [show Ideal.ofBits .f32 2139095040#32 = ⊤ from posInf]
  obtain ⟨σ, hσ, hmono, hfive⟩ := topFive_at f R
  have hm := fold_min_bottom fun j : Fin 5 => topFive f (ix2 R j)
  rw [h]
  obtain ⟨j, hj⟩ := hm.2
  exact Fifth.sorted (by norm_num) hσ hmono (fun i hi => (hm.1 ⟨i, hi⟩).trans (hfive ⟨i, hi⟩).le) ⟨⟨j, by omega⟩, j.isLt, hj.trans (hfive j)⟩

theorem back_at (v : FVec Ideal S128x16385 .f32) (t : FVec Ideal S32768x16385 .f32) (R : Fin 128) (n : Fin 32768) :
    back v t (ix2 R n) = ∑ k : Fin 16385, shares (F := Ideal) (ix2 R k) * v (ix2 R k) * t (ix2 n k) := by
  pointwise [back]

section row

variable {x : FVec Ideal S128x32768 .f32} {R : Fin 128} {y : Fin 128 → Fin 256 → ℝ}
  (hx : ∀ (a : Fin 128) (b : Fin 256), x (ix2 R ⟨256 * a + b, by omega⟩) = ((y a b : ℝ) : EReal))

include hx

theorem threshold_at : ∃ θ : ℝ, threshold (freq x) (ix2 R 0) = ((θ : ℝ) : EReal) ∧ IsFifth (fun k : Fin 16385 => mag y k) θ := by
  have h := threshold_isFifth (freq x) R
  rw [funext fun k => freq_at hx k] at h
  exact IsFifth.real h (by rw [Fintype.card_fin]; norm_num)

theorem kept_at {θ : ℝ} (hθ : threshold (freq x) (ix2 R 0) = ((θ : ℝ) : EReal)) {v : FVec Ideal S128x16385 .f32} {w : ℝ}
    {k : Fin 16385} (hv : v (ix2 R k) = ((w : ℝ) : EReal)) :
    select (masked (freq x)) zeros v (ix2 R k) = ((if mag y k ≤ θ then 0 else w : ℝ) : EReal) := by
  have hf := freq_at hx k
  pointwise [masked, zeros]
  rw [hf, hθ, hv, show id (constant (F := Ideal) S_ .f32 0#32) ix0 = ((0 : ℝ) : EReal) from zero]
  simp only [EReal.coe_le_coe_iff]
  exact (apply_ite Real.toEReal _ _ _).symm

theorem season_at {θ : ℝ} (hθ : threshold (freq x) (ix2 R 0) = ((θ : ℝ) : EReal)) (n : Fin 32768) :
    season x (ix2 R n) = ((refSeason y θ n : ℝ) : EReal) := by
  show FloatOps.subf (back _ _ (ix2 R n)) (back _ _ (ix2 R n)) = _
  rw [back_at, back_at]
  simp only [shares_at, cosT_at, sinT_at, kept_at hx hθ (reR_at hx _), kept_at hx hθ (imR_at hx _), ← EReal.coe_mul, sum_coe]
  exact (EReal.coe_sub _ _).symm

end row

end Cert.ReferenceIdeal.Hand
-- ==== Proof.Agree.lean ====
/-
  The kernel and the reference agree on finite inputs whose fifth magnitude stands apart from the next.
-/
module

public import proofs.«01_k».proof.Defs
public import proofs.«01_k».proof.Proof.Gen.Pre_finite_and_separated
public import proofs.«01_k».proof.Proof.Arrays
public import proofs.«01_k».proof.Proof.Reference

@[expose] public section

noncomputable section

namespace Cert.Agree

open Idealize.ShloMosaic Idealize.ShloMosaic.TcCoe Cert.ReferenceIdeal Cert.ReferenceIdeal.Gen Cert.ReferenceIdeal.Hand Cert.Dft Cert.Consts Cert.Fifth Cert.Equation

section pre

variable (x : FVec Ideal S128x32768 .f32)

/-- Where the magnitude counts as apart from the threshold. -/
def apart : IVec S128x16385 1 :=
  ori (masked (freq x)) (cmpf .ogt (mulf (freq x) (freq x)) (broadcastInDim S128x16385 ![0, 1] bcast_S128x1_S128x16385_0_1
    (mulf (mulf (threshold (freq x)) (threshold (freq x))) (broadcastInDim S128x1 ![] Cert.Pre_finite_and_separated.Gen.bcast_S_S128x1 (constant S_ .f32 0x3F800004#32)))))

def finite : IVec S128x32768 1 :=
  cmpf .olt (Host.absf x) (broadcastInDim S128x32768 ![] Cert.Pre_finite_and_separated.Gen.bcast_S_S128x32768 (constant S_ .f32 0x7F800000#32))

theorem pre_eq : Cert.Pre_finite_and_separated.fn (F := Ideal) x = (finite x, apart x) := rfl

variable {x}

theorem real_of_finite (h : finite x = fun _ => 1#1) (R : Fin 128) (n : Fin 32768) : x (ix2 R n) = (((x (ix2 R n)).toReal : ℝ) : EReal) := by
  have hj := congrFun h (ix2 R n)
  have hm : finite x (ix2 R n) = BitVec.ofBool (decide (max (x (ix2 R n)) (-(x (ix2 R n))) < (⊤ : EReal))) := by
    pointwise [finite]
    rw [show Ideal.ofBits .f32 2139095040#32 = ⊤ from posInf]
    rfl
  rw [hm, mask_ofBool] at hj
  have hlt : max (x (ix2 R n)) (-(x (ix2 R n))) < (⊤ : EReal) := by
    by_contra hc
    rw [if_neg hc] at hj
    exact absurd hj (by decide)
  have hd := max_lt_iff.1 hlt
  refine (EReal.coe_toReal (ne_of_lt hd.1) fun hb => ?_).symm
  rw [hb, EReal.neg_bot] at hd
  exact lt_irrefl _ hd.2

/-- The samples of a row, as the kernel arranges them. -/
def samples (x : FVec Ideal S128x32768 .f32) (R : Fin 128) (a : Fin 128) (b : Fin 256) : ℝ := (x (ix2 R ⟨256 * a + b, by omega⟩)).toReal

theorem samples_at (h : finite x = fun _ => 1#1) (R a : Fin 128) (b : Fin 256) :
    x (ix2 R ⟨256 * a + b, by omega⟩) = ((samples x R a b : ℝ) : EReal) := real_of_finite h R _

theorem gap (hf : finite x = fun _ => 1#1) (ha : apart x = fun _ => 1#1) (R : Fin 128) {θ : ℝ}
    (hθ : threshold (freq x) (ix2 R 0) = ((θ : ℝ) : EReal)) (k : Fin 16385) :
    mag (samples x R) k ≤ θ ∨ θ * θ * (2097153 / 2097152) < mag (samples x R) k * mag (samples x R) k := by
  have hj := congrFun ha (ix2 R k)
  have hk := freq_at (samples_at hf R) k
  have hm : apart x (ix2 R k) = if mag (samples x R) k ≤ θ ∨ θ * θ * (2097153 / 2097152) < mag (samples x R) k * mag (samples x R) k then 1#1 else 0#1 := by
    pointwise [apart, masked]
    rw [hk, hθ, show Ideal.ofBits .f32 1065353220#32 = _ from onePlus]
    rw [← EReal.coe_mul, ← EReal.coe_mul, ← EReal.coe_mul]
    simp only [EReal.coe_le_coe_iff, EReal.coe_lt_coe_iff, mask_ofBool]
    exact or_mask
  rw [hm] at hj
  by_contra hc
  rw [if_neg hc] at hj
  exact absurd hj (by decide)

end pre

/-- The result's layout: sample 256·a + b of a row lies at (a, b). -/
theorem flat_at (v : FVec Ideal S128x32768 .f32) (R a : Fin 128) (b : Fin 256) :
    shapeCast S128x128x256 v shapeCasts_S128x32768_S128x128x256 (ix3 R a b) = v (ix2 R ⟨256 * a + b, by omega⟩) := by
  pointwise
  exact congrArg v (congrArg (ix2 R) (Fin.ext (by dsimp only; omega)))

section arrays

variable (m : (ℓ : Loc Cert.KernelIdeal.nD Cert.KernelIdeal.τ Cert.KernelIdeal.sig) → Buf (Elt Ideal) ℓ) (c : Dev Cert.KernelIdeal.nD)

/-- The kernel's input. -/
def input : FVec Ideal S128x32768 .f32 := m ((c.tc : Thread Cert.KernelIdeal.nD Cert.KernelIdeal.τ).loc Cert.KernelIdeal.main_arg0)

variable {m c} (hf : finite (input m c) = fun _ => 1#1) (ha : apart (input m c) = fun _ => 1#1)

include hf in
theorem block_at (t : Fin 8) (r : Fin 16) (a : Fin 128) (b : Fin 256) :
    Cert.KernelIdeal.Gen.iblk m c 0 t (ix3 r a b) = ((samples (input m c) ⟨16 * t + r, by omega⟩ a b : ℝ) : EReal) :=
  (Cert.KernelIdeal.Hand.blk0 m c t r a b).trans
    ((Cert.KernelIdeal.Hand.V155 m c ⟨16 * t + r, by omega⟩ a b).trans (samples_at hf ⟨16 * t + r, by omega⟩ a b))

include hf ha in
/-- A block's season is the reference's. -/
theorem season_block (t : Fin 8) (r : Fin 16) (a : Fin 128) (b : Fin 256) :
    Cert.KernelIdeal.Hand.seaB (Cert.KernelIdeal.Gen.iblk m c 0 t) (Cert.KernelIdeal.Gen.iblk m c 1 t) (Cert.KernelIdeal.Gen.iblk m c 2 t)
      (Cert.KernelIdeal.Gen.iblk m c 3 t) (Cert.KernelIdeal.Gen.iblk m c 4 t) (Cert.KernelIdeal.Gen.iblk m c 5 t)
      (Cert.KernelIdeal.Gen.iblk m c 6 t) (Cert.KernelIdeal.Gen.iblk m c 7 t) (Cert.KernelIdeal.Gen.iblk m c 8 t)
      (Cert.KernelIdeal.Gen.iblk m c 9 t) (Cert.KernelIdeal.Gen.iblk m c 10 t) r (ix2 a b)
      = season (input m c) (ix2 ⟨16 * t + r, by omega⟩ ⟨256 * a + b, by omega⟩) := by
  obtain ⟨u, hu, hs⟩ := Cert.KernelIdeal.Hand.seaB_at (Cert.KernelIdeal.Hand.tables m c t)
    (y := fun r => samples (input m c) ⟨16 * t + r, by omega⟩) (block_at hf t) r
  obtain ⟨θ, hθ, h5⟩ := threshold_at (samples_at hf ⟨16 * t + r, by omega⟩)
  rw [season_at (samples_at hf _) hθ]
  exact (hs a b).trans (congrArg Real.toEReal (season_eq hu h5 (gap hf ha _ hθ) a b))

theorem split (R : Fin 128) : ∃ (t : Fin 8) (r : Fin 16), R = ⟨16 * t + r, by omega⟩ :=
  ⟨⟨R.val / 16, by omega⟩, ⟨R.val % 16, by omega⟩, Fin.ext (by dsimp only; omega)⟩

include hf ha in
theorem season_array : (Cert.KernelIdeal.Gen.dats m 0 c).arrAt 11 Cert.KernelIdeal.cfg0.N
    = shapeCast S128x128x256 (season (input m c)) shapeCasts_S128x32768_S128x128x256 := by
  refine funext fun (j : S128x128x256.Idx) => ?_
  obtain ⟨R, a, b, rfl⟩ : ∃ (R a : Fin 128) (b : Fin 256), j = ix3 R a b := ⟨j 0, j 1, j 2, eq_ix3 j⟩
  obtain ⟨t, r, rfl⟩ := split R
  exact (Cert.KernelIdeal.Hand.arr11 m c t r a b).trans ((season_block hf ha t r a b).trans (flat_at _ _ a b).symm)

include hf ha in
theorem trend_array : (Cert.KernelIdeal.Gen.dats m 0 c).arrAt 12 Cert.KernelIdeal.cfg0.N
    = shapeCast S128x128x256 (subf (input m c) (season (input m c))) shapeCasts_S128x32768_S128x128x256 := by
  refine funext fun (j : S128x128x256.Idx) => ?_
  obtain ⟨R, a, b, rfl⟩ : ∃ (R a : Fin 128) (b : Fin 256), j = ix3 R a b := ⟨j 0, j 1, j 2, eq_ix3 j⟩
  obtain ⟨t, r, rfl⟩ := split R
  refine (Cert.KernelIdeal.Hand.arr12 m c t r a b).trans (Eq.trans ?_ (flat_at _ _ a b).symm)
  rw [season_block hf ha t r a b, block_at hf t r a b]
  show _ = FloatOps.subf (input m c (ix2 _ _)) (season (input m c) (ix2 _ _))
  rw [samples_at hf ⟨16 * t + r, by omega⟩ a b]

end arrays

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Value
public import proofs.«01_k».proof.Proof.Gen.ReferenceIdeal.Run
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_separated
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs, leaves its argument as it was, and has no semaphore. -/
theorem reference_frame : Cert.quiescent_ReferenceIdeal (hReferenceIdeal := Cert.ReferenceIdeal.Gen.facts) := fun m ρ _ =>
  (θ_run (Cert.ReferenceIdeal.defs (F := Ideal)) _ _).mono
    (fun _ h => ⟨fun c => (h c).2.2, Idealize.ShloMosaic.sem_eq_zero_of_no_sems (by decide) _⟩) (Cert.ReferenceIdeal.Value.run (F := Ideal) m ρ)

/-- On finite inputs whose fifth magnitude stands apart, both programs end with the same season and trend. -/
theorem values : Cert.algebraic_KernelIdeal_ReferenceIdeal_pre_finite_and_separated (hKernelIdeal := Cert.KernelIdeal.Gen.facts)
    (hReferenceIdeal := Cert.ReferenceIdeal.Gen.facts) (hPre_finite_and_separated := Cert.Pre_finite_and_separated.Gen.facts) := by
  intro m g m' g' hpre harg
  refine ⟨_, _, Cert.KernelIdeal.Value.run_blocks m g,
    (θ_run (Cert.ReferenceIdeal.defs (F := Ideal)) _ _).mono (fun r h c => ?_) (Cert.ReferenceIdeal.Value.run (F := Ideal) m' g')⟩
  have hf : Cert.Agree.finite (Cert.Agree.input m c) = fun _ => 1#1 := (hpre c).1
  have ha : Cert.Agree.apart (Cert.Agree.input m c) = fun _ => 1#1 := (hpre c).2
  have hx : m' ((c.tc : Thread Cert.ReferenceIdeal.nD Cert.ReferenceIdeal.τ).loc Cert.ReferenceIdeal.main_arg0) = Cert.Agree.input m c := harg c
  refine ⟨(h c).1.trans ?_, (h c).2.1.trans ?_, (h c).2.2⟩
  · rw [Cert.ReferenceIdeal.Hand.season_res, hx]
    exact (Cert.Agree.season_array hf ha).symm
  · rw [Cert.ReferenceIdeal.Hand.trend_res, hx]
    exact (Cert.Agree.trend_array hf ha).symm

theorem claim : Cert.Claim := ⟨Cert.Kernel.Gen.facts, Cert.KernelIdeal.Gen.facts, Cert.ReferenceIdeal.Gen.facts, Cert.Pre_finite_and_separated.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, values⟩

end Cert.Proof

end
